-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x5120 : Shape := ⟨3, ![2, 384, 5120]⟩
abbrev S5120x6912 : Shape := ⟨2, ![5120, 6912]⟩
abbrev S6912 : Shape := ⟨1, ![6912]⟩
abbrev S768x5120 : Shape := ⟨2, ![768, 5120]⟩
abbrev S1x6912 : Shape := ⟨2, ![1, 6912]⟩
abbrev S768x1 : Shape := ⟨2, ![768, 1]⟩
abbrev S768x3456 : Shape := ⟨2, ![768, 3456]⟩
abbrev S5120x384 : Shape := ⟨2, ![5120, 384]⟩
abbrev S1x384 : Shape := ⟨2, ![1, 384]⟩
abbrev S9x768x384 : Shape := ⟨3, ![9, 768, 384]⟩
abbrev S768 : Shape := ⟨1, ![768]⟩
abbrev S1x248 : Shape := ⟨2, ![1, 248]⟩
abbrev S768x248 : Shape := ⟨2, ![768, 248]⟩
abbrev S5120x768 : Shape := ⟨2, ![5120, 768]⟩
abbrev S768x768 : Shape := ⟨2, ![768, 768]⟩
abbrev S768x384 : Shape := ⟨2, ![768, 384]⟩
abbrev S1x768x384 : Shape := ⟨3, ![1, 768, 384]⟩

abbrev nBuf : Space → Nat
  | .hbm => 10
  | .vmem => 15
  | .smem => 0
  | _ => 0

abbrev bufTy : (tb : Table) → Fin (tcTables nBuf tb) → BufTy
  | .hbm, ⟨0, _⟩ => ⟨S2x384x5120, .bf16⟩
  | .hbm, ⟨1, _⟩ => ⟨S5120x6912, .fp8e4m3⟩
  | .hbm, ⟨2, _⟩ => ⟨S6912, .f32⟩
  | .hbm, ⟨3, _⟩ => ⟨S768x5120, .bf16⟩
  | .hbm, ⟨4, _⟩ => ⟨S1x6912, .f32⟩
  | .hbm, ⟨5, _⟩ => ⟨S1x6912, .f32⟩
  | .hbm, ⟨6, _⟩ => ⟨S768x1, .f32⟩
  | .hbm, ⟨7, _⟩ => ⟨S768x3456, .fp8e4m3⟩
  | .hbm, ⟨8, _⟩ => ⟨S768x5120, .fp8e4m3⟩
  | .hbm, ⟨9, _⟩ => ⟨S768x1, .f32⟩
  | .local _ .vmem, ⟨0, _⟩ => ⟨S768x5120, .bf16⟩
  | .local _ .vmem, ⟨1, _⟩ => ⟨S5120x384, .fp8e4m3⟩
  | .local _ .vmem, ⟨2, _⟩ => ⟨S5120x384, .fp8e4m3⟩
  | .local _ .vmem, ⟨3, _⟩ => ⟨S5120x384, .fp8e4m3⟩
  | .local _ .vmem, ⟨4, _⟩ => ⟨S5120x384, .fp8e4m3⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S1x384, .f32⟩
  | .local _ .vmem, ⟨9, _⟩ => ⟨S768x1, .f32⟩
  | .local _ .vmem, ⟨10, _⟩ => ⟨S768x3456, .fp8e4m3⟩
  | .local _ .vmem, ⟨11, _⟩ => ⟨S768x5120, .fp8e4m3⟩
  | .local _ .vmem, ⟨12, _⟩ => ⟨S768x1, .f32⟩
  | .local _ .vmem, ⟨13, _⟩ => ⟨S9x768x384, .f32⟩
  | .local _ .vmem, ⟨14, _⟩ => ⟨S768x1, .f32⟩
  | _, _ => ⟨S2x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![9], ![false]⟩

def k0_off1 (i : grid0.Coords) : Fin 3 → Nat :=
  let arg0 : BitVec 32 := BitVec.ofNat 32 (i 0).val
  let v28 : Index := Scalar.indexCast arg0
  let c0_12 : Index := 0#32
  let c0_13 : Index := 0#32
  ![v28.toNat, 0, 0]
def k0_cond2 (i : grid0.Coords) : BitVec 1 :=
  let arg0 : BitVec 32 := BitVec.ofNat 32 (i 0).val
  let c8_i32 : BitVec 32 := 8#32
  let v40 : BitVec 1 := Scalar.cmpi .eq arg0 c8_i32
  let v41 : BitVec 32 := Scalar.extui v40
  let c0_i32_19 : BitVec 32 := 0#32
  let v42 : BitVec 1 := Scalar.cmpi .ne v41 c0_i32_19
  v42

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x3456 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x384x5120 : Shape := ⟨3, ![2, 384, 5120]⟩
abbrev S5120x6912 : Shape := ⟨2, ![5120, 6912]⟩
abbrev S6912 : Shape := ⟨1, ![6912]⟩
abbrev S768x5120 : Shape := ⟨2, ![768, 5120]⟩
abbrev S1x6912 : Shape := ⟨2, ![1, 6912]⟩
abbrev S768x1 : Shape := ⟨2, ![768, 1]⟩
abbrev S768x3456 : Shape := ⟨2, ![768, 3456]⟩
abbrev S768 : Shape := ⟨1, ![768]⟩
abbrev S768x6912 : Shape := ⟨2, ![768, 6912]⟩

abbrev nBuf : Space → Nat
  | .hbm => 9
  | .vmem => 7
  | .smem => 0
  | _ => 0

abbrev bufTy : (tb : Table) → Fin (tcTables nBuf tb) → BufTy
  | .hbm, ⟨0, _⟩ => ⟨S2x384x5120, .bf16⟩
  | .hbm, ⟨1, _⟩ => ⟨S5120x6912, .fp8e4m3⟩
  | .hbm, ⟨2, _⟩ => ⟨S6912, .f32⟩
  | .hbm, ⟨3, _⟩ => ⟨S768x5120, .bf16⟩
  | .hbm, ⟨4, _⟩ => ⟨S1x6912, .f32⟩
  | .hbm, ⟨5, _⟩ => ⟨S768x1, .f32⟩
  | .hbm, ⟨6, _⟩ => ⟨S768x3456, .fp8e4m3⟩
  | .hbm, ⟨7, _⟩ => ⟨S768x5120, .fp8e4m3⟩
  | .hbm, ⟨8, _⟩ => ⟨S768x1, .f32⟩
  | .local _ .vmem, ⟨0, _⟩ => ⟨S768x5120, .bf16⟩
  | .local _ .vmem, ⟨1, _⟩ => ⟨S5120x6912, .fp8e4m3⟩
  | .local _ .vmem, ⟨2, _⟩ => ⟨S1x6912, .f32⟩
  | .local _ .vmem, ⟨3, _⟩ => ⟨S768x1, .f32⟩
  | .local _ .vmem, ⟨4, _⟩ => ⟨S768x3456, .fp8e4m3⟩
  | .local _ .vmem, ⟨5, _⟩ => ⟨S768x5120, .fp8e4m3⟩
  | .local _ .vmem, ⟨6, _⟩ => ⟨S768x1, .f32⟩
  | _, _ => ⟨S2x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x3456 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Vals.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores, as functions of what it loads -/

/-- The codes of the activations `x`: `x` times the reciprocal of its row's scale, clipped to ±448, in fp8. -/
def XC (x : Vec F S768x5120 .bf16) : Vec F S768x5120 .fp8e4m3 := k0_pay20 (k0_pay5 x) (k0_pay6 x)
/-- The row scales of the activations `x`. -/
def XS (x : Vec F S768x5120 .bf16) : Vec F S768x1 .f32 := k0_pay19 (F := F) (k0_pay6 x)
/-- The running row maximum `am` raised by the rows of one column tile's hidden block. -/
def AMs (wg wu : Vec F S5120x384 .fp8e4m3) (xc : Vec F S768x5120 .fp8e4m3) (xs : Vec F S768x1 .f32) (sg su : Vec F S1x384 .f32) (am : Vec F S768x1 .f32) : Vec F S768x1 .f32 :=
  k0_pay1 (k0_pay24 wg wu xc xs sg su am)
/-- The row scales of the hidden block, from its row maxima `am`. -/
def HS (am : Vec F S768x1 .f32) : Vec F S768x1 .f32 := k0_pay9 (F := F) (k0_pay8 am)

theorem tile_inb (k : ℕ) (hk : k < 9) : ∀ a : Fin S9x768x384.rank, (![k, 0, 0] : Fin 3 → ℕ) a + S1x768x384.size a ≤ S9x768x384.size a := by
  intro a; match a with
  | ⟨0, _⟩ => show k + 1 ≤ 9; omega
  | ⟨1, _⟩ => show 0 + 768 ≤ 768; omega
  | ⟨2, _⟩ => show 0 + 384 ≤ 384; omega

/-- Slice `k` of the scratch that holds the hidden block, one slice per column tile. -/
def slice (D : Vec F S9x768x384 .f32) (k : ℕ) (hk : k < 9) : Vec F S1x768x384 .f32 :=
  VecWindow.window D (![k, 0, 0] : Fin 3 → ℕ) S1x768x384.size (tile_inb k hk)

/-- The place of index `y` of the hidden block within its column tile. -/
def inTile (y : S768x3456.Idx) : S768x384.Idx :=
  fun | ⟨0, _⟩ => ⟨(y 0).val, (y 0).isLt⟩ | ⟨1, _⟩ => ⟨(y 1).val % 384, Nat.mod_lt _ (by decide)⟩

/-- The codes of the hidden block: column `n` is column `n % 384` of the codes of slice `n / 384` of `S`. -/
def HC (am : Vec F S768x1 .f32) (S : (k : ℕ) → k < 9 → Vec F S1x768x384 .f32) : Vec F S768x3456 .fp8e4m3 := fun y =>
  k0_pay2 (k0_pay10 (F := F) (k0_pay7 am)) (S ((y 1).val / 384) (by have h : (y 1).val < 3456 := (y 1).isLt; omega)) (inTile y)

/-- Storing slice `n` changes that slice and no other. -/
theorem slice_put_same (D : Vec F S9x768x384 .f32) (n : ℕ) (hn : n < 9) (w : Vec F S1x768x384 .f32) :
    slice (VecWindow.put D (![n, 0, 0] : Fin 3 → ℕ) S1x768x384.size w) n hn = w :=
  VecWindow.window_put_same D (![n, 0, 0] : Fin 3 → ℕ) S1x768x384.size (tile_inb n hn) w
theorem slice_put_ne (D : Vec F S9x768x384 .f32) (n : ℕ) (w : Vec F S1x768x384 .f32) (k : ℕ) (hk : k < 9) (h : k ≠ n) :
    slice (VecWindow.put D (![n, 0, 0] : Fin 3 → ℕ) S1x768x384.size w) k hk = slice D k hk :=
  VecWindow.window_put_of_disjoint D (![n, 0, 0] : Fin 3 → ℕ) S1x768x384.size _ _ (tile_inb k hk) w (0 : Fin 3)
    (by show k + 1 ≤ n ∨ n + 1 ≤ k; omega)

/-! ## Loads and stores of whole memrefs -/

theorem ld_whole {s : Shape} {e : EltTy} {mr : Memref sig .tc .vmem s e} (h : mr.IsWhole) (x : Vec F s e) {off : Fin s.rank → ℕ}
    (inb : ∀ a, off a + s.size a ≤ s.size a) :
    View.readAt (Elt F) mr.view (Rect.unit off s.size inb).toLoadRect (h.unread x) = x :=
  (View.readAt_full _ _ inb).trans (h.read_unread x)

theorem XC_congr {x x' : Vec F S768x5120 .bf16} (h : x = x') : k0_pay20 (k0_pay5 x) (k0_pay6 x) = XC x' := by rw [h]; rfl
theorem XS_congr {x x' : Vec F S768x5120 .bf16} (h : x = x') : k0_pay19 (F := F) (k0_pay6 x) = XS x' := by rw [h]; rfl
theorem pay23_congr {a a' b b' : Vec F S5120x384 .fp8e4m3} {x x' : Vec F S768x5120 .fp8e4m3} {s s' : Vec F S768x1 .f32} {g g' u u' : Vec F S1x384 .f32}
    (ha : a = a') (hb : b = b') (hx : x = x') (hs : s = s') (hg : g = g') (hu : u = u') : k0_pay23 a b x s g u = k0_pay23 a' b' x' s' g' u' := by
  rw [ha, hb, hx, hs, hg, hu]
theorem AMs_congr {a a' b b' : Vec F S5120x384 .fp8e4m3} {x x' : Vec F S768x5120 .fp8e4m3} {s s' : Vec F S768x1 .f32} {g g' u u' : Vec F S1x384 .f32} {m m' : Vec F S768x1 .f32}
    (ha : a = a') (hb : b = b') (hx : x = x') (hs : s = s') (hg : g = g') (hu : u = u') (hm : m = m') : k0_pay1 (k0_pay24 a b x s g u m) = AMs a' b' x' s' g' u' m' := by
  rw [ha, hb, hx, hs, hg, hu, hm]; rfl
theorem HS_congr {m m' : Vec F S768x1 .f32} (h : m = m') : k0_pay9 (F := F) (k0_pay8 m) = HS m' := by rw [h]; rfl

/-- A store into slice `off` of the scratch leaves the rest of it as it was. -/
theorem put_whole {mr : Memref sig .tc .vmem S9x768x384 .f32} (h : mr.IsWhole) (xs0 : Vec F S9x768x384 .f32) {off : Fin 3 → ℕ}
    (inb : ∀ a, off a + S1x768x384.size a ≤ S9x768x384.size a) {w w' : Vec F S1x768x384 .f32} (hw : w = w') :
    mr.view.read (Elt F) (mr.view.writes (Elt F) (h.unread xs0) [⟨Rect.unit (s := S9x768x384) off S1x768x384.size inb, w⟩])
      = VecWindow.put xs0 off S1x768x384.size w' := by
  subst hw
  exact (View.read_writes_cons_put mr.view (h.unread xs0) inb w [] rfl).trans (congrArg (fun X : S9x768x384.Idx → Elt F .f32 => VecWindow.put X off S1x768x384.size w) (h.read_unread xs0))

/-- The codes of column tile `k` of the hidden block stored over the tiles already stored. -/
theorem hc_step {mr : Memref sig .tc .vmem S768x3456 .fp8e4m3} (f : mr.view.ty.Contents (Elt F)) (am : Vec F S768x1 .f32) (D : Vec F S9x768x384 .f32)
    (k : ℕ) (hk : k < 9) {off : Fin 2 → ℕ} (hoff : off = ![0, 384 * k]) (inb : ∀ a, off a + S768x384.size a ≤ S768x3456.size a)
    (p : Vec F S768x384 .fp8e4m3) (hp : p = k0_pay2 (k0_pay10 (F := F) (k0_pay7 am)) (slice D k hk)) (L : List (View.Piece (Elt F) S768x3456 .fp8e4m3)) (y : S768x3456.Idx)
    (rest : (y 1).val / 384 ≠ k → mr.view.read (Elt F) (mr.view.writes (Elt F) f L) y = HC am (slice D) y) :
    mr.view.read (Elt F) (mr.view.writes (Elt F) f (⟨Rect.unit (s := S768x3456) off S768x384.size inb, p⟩ :: L)) y = HC am (slice D) y := by
  subst hoff
  have h0 : (y 0).val < 768 := (y 0).isLt
  have h1 : (y 1).val < 3456 := (y 1).isLt
  by_cases h : (y 1).val / 384 = k
  · refine (View.read_writes_cons_unit_of_mem mr.view f inb p L y (inTile y) rfl ?_).trans ?_
    · intro a; match a with
      | ⟨0, _⟩ => show (y 0).val = 0 + (y 0).val; omega
      | ⟨1, _⟩ => show (y 1).val = 384 * k + (y 1).val % 384; omega
    · subst h; rw [hp]; unfold HC; rfl
  · refine (View.read_writes_cons_unit_of_not_mem mr.view f inb p L y rfl 1 ?_).trans (rest h)
    show (y 1).val < 384 * k ∨ 384 * k + 384 ≤ (y 1).val
    omega

theorem inv_congr {m m' : Vec F S768x1 .f32} (h : m = m') : k0_pay10 (F := F) (k0_pay7 m) = k0_pay10 (F := F) (k0_pay7 m') := by rw [h]
theorem exp_congr {m m' : Vec F S768x1 .f32} (h : m = m') : k0_pay7 (F := F) m = k0_pay7 m' := by rw [h]
theorem tile2 {a a' : Vec F S768x1 .f32} {s s' : Vec F S1x768x384 .f32} (ha : a = a') (hs : s = s') : k0_pay2 a s = k0_pay2 a' s' := by subst ha; subst hs; rfl
theorem tile3 {a a' : Vec F S768x1 .f32} {s s' : Vec F S1x768x384 .f32} (ha : a = a') (hs : s = s') : k0_pay3 a s = k0_pay2 a' s' := by subst ha; subst hs; rfl
theorem tile4 {a a' : Vec F S768x1 .f32} {s s' : Vec F S1x768x384 .f32} (ha : a = a') (hs : s = s') : k0_pay4 a s = k0_pay2 a' s' := by subst ha; subst hs; rfl
theorem tile16 {a a' : Vec F S768x1 .f32} {s s' : Vec F S1x768x384 .f32} (ha : a = a') (hs : s = s') : k0_pay16 a s = k0_pay2 a' s' := by subst ha; subst hs; rfl
theorem tile17 {a a' : Vec F S768x1 .f32} {s s' : Vec F S1x768x384 .f32} (ha : a = a') (hs : s = s') : k0_pay17 a s = k0_pay2 a' s' := by subst ha; subst hs; rfl
theorem tile18 {a a' : Vec F S768x1 .f32} {s s' : Vec F S1x768x384 .f32} (ha : a = a') (hs : s = s') : k0_pay18 a s = k0_pay2 a' s' := by subst ha; subst hs; rfl
theorem tile11 {a a' : IVec S768x1 32} {s s' : Vec F S1x768x384 .f32} (ha : a = a') (hs : s = s') : k0_pay11 a s = k0_pay2 (k0_pay10 (F := F) a') s' := by subst ha; subst hs; rfl
theorem tile12 {a a' : IVec S768x1 32} {s s' : Vec F S1x768x384 .f32} (ha : a = a') (hs : s = s') : k0_pay12 a s = k0_pay2 (k0_pay10 (F := F) a') s' := by subst ha; subst hs; rfl
theorem tile13 {a a' : IVec S768x1 32} {s s' : Vec F S1x768x384 .f32} (ha : a = a') (hs : s = s') : k0_pay15 (k0_pay13 a s) k0_pay14 = k0_pay2 (k0_pay10 (F := F) a') s' := by subst ha; subst hs; rfl

/-- A load of slice `k` of the scratch. -/
theorem ld_slice {mr : Memref sig .tc .vmem S9x768x384 .f32} {f : mr.view.ty.Contents (Elt F)} {D : Vec F S9x768x384 .f32} (h : mr.view.read (Elt F) f = D)
    (k : ℕ) (hk : k < 9) (inb : ∀ a, (![k, 0, 0] : Fin 3 → ℕ) a + S1x768x384.size a ≤ S9x768x384.size a) :
    View.readAt (Elt F) mr.view (Rect.unit (s := S9x768x384) ![k, 0, 0] S1x768x384.size inb).toLoadRect f = slice D k hk := by
  subst h; rfl

end Cert.Kernel.Hand

end
-- ==== Proof.Kernel.RunAB.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Kernel.Vals

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it writes the codes and scales of the activations, then this point's slice of the scratch, and the running maxima from zero. -/
theorem runA (c : Dev nD) (i : grid0.Coords) (arg1 : Memref sig .tc .vmem S768x5120 .bf16) (harg1 : arg1.IsWhole) (arg2 : Memref sig .tc .vmem S5120x384 .fp8e4m3) (harg2 : arg2.IsWhole) (arg3 : Memref sig .tc .vmem S5120x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S768x1 .f32) (harg6 : arg6.IsWhole) (arg7 : Memref sig .tc .vmem S768x3456 .fp8e4m3) (harg7 : arg7.IsWhole) (arg8 : Memref sig .tc .vmem S768x5120 .fp8e4m3) (harg8 : arg8.IsWhole) (arg9 : Memref sig .tc .vmem S768x1 .f32) (harg9 : arg9.IsWhole) (arg10 : Memref sig .tc .vmem S9x768x384 .f32) (harg10 : arg10.IsWhole) (arg11 : Memref sig .tc .vmem S768x1 .f32) (harg11 : arg11.IsWhole) (hc0 : k0_cond1 i = 1#1) (hc1 : ¬k0_cond2 i = 1#1)
    (x0 : Vec F S768x5120 .bf16) (x1 : Vec F S5120x384 .fp8e4m3) (x2 : Vec F S5120x384 .fp8e4m3) (x3 : Vec F S1x384 .f32) (x4 : Vec F S1x384 .f32)  (xs0 : Vec F S9x768x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare (XC x0) ∗ owns (c : Thread nD τ) arg9 fullShare (XS x0) ∗ owns (c : Thread nD τ) arg10 fullShare (VecWindow.put xs0 (k0_off1 i) S1x768x384.size (k0_pay23 x1 x2 (XC x0) (XS x0) x3 x4)) ∗ owns (c : Thread nD τ) arg11 fullShare (AMs x1 x2 (XC x0) (XS x0) x3 x4 (k0_pay21 (F := F)))) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [cc0_swiglu_gate_up_fp8_eq_skeleton]; unfold cc0_swiglu_gate_up_fp8_skel
  simp only [k0_part5_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H7]
  · iexists _; isplitr
    swap; · iexact H7
    ipureintro; exact (View.read_writes_full _ _ _ _ _).trans (XC_congr (ld_whole harg1 x0 _))
  isplitl [H8]
  · iexists _; isplitr
    swap; · iexact H8
    ipureintro; exact (View.read_writes_full _ _ _ _ _).trans (XS_congr (ld_whole harg1 x0 _))
  isplitl [HS0]
  · iexists _; isplitr
    swap; · iexact HS0
    ipureintro; exact put_whole harg10 xs0 _ (pay23_congr (ld_whole harg2 x1 _) (ld_whole harg3 x2 _) ((View.readAt_writes_full _ _ _ _ _ _).trans (XC_congr (ld_whole harg1 x0 _))) ((View.readAt_writes_full _ _ _ _ _ _).trans (XS_congr (ld_whole harg1 x0 _))) (ld_whole harg4 x3 _) (ld_whole harg5 x4 _))
  iexists _; isplitr
  swap; · iexact HS1
  ipureintro; exact (View.read_writes_full _ _ _ _ _).trans (AMs_congr (ld_whole harg2 x1 _) (ld_whole harg3 x2 _) ((View.readAt_writes_full _ _ _ _ _ _).trans (XC_congr (ld_whole harg1 x0 _))) ((View.readAt_writes_full _ _ _ _ _ _).trans (XS_congr (ld_whole harg1 x0 _))) (ld_whole harg4 x3 _) (ld_whole harg5 x4 _) (View.readAt_writes_full _ _ _ _ _ _))

set_option maxHeartbeats 1000000 in
/-- The body at a middle point: it writes this point's slice of the scratch and raises the running maxima. -/
theorem runB (c : Dev nD) (i : grid0.Coords) (arg1 : Memref sig .tc .vmem S768x5120 .bf16) (harg1 : arg1.IsWhole) (arg2 : Memref sig .tc .vmem S5120x384 .fp8e4m3) (harg2 : arg2.IsWhole) (arg3 : Memref sig .tc .vmem S5120x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S768x1 .f32) (harg6 : arg6.IsWhole) (arg7 : Memref sig .tc .vmem S768x3456 .fp8e4m3) (harg7 : arg7.IsWhole) (arg8 : Memref sig .tc .vmem S768x5120 .fp8e4m3) (harg8 : arg8.IsWhole) (arg9 : Memref sig .tc .vmem S768x1 .f32) (harg9 : arg9.IsWhole) (arg10 : Memref sig .tc .vmem S9x768x384 .f32) (harg10 : arg10.IsWhole) (arg11 : Memref sig .tc .vmem S768x1 .f32) (harg11 : arg11.IsWhole) (hc0 : ¬k0_cond1 i = 1#1) (hc1 : ¬k0_cond2 i = 1#1)
    (x0 : Vec F S768x5120 .bf16) (x1 : Vec F S5120x384 .fp8e4m3) (x2 : Vec F S5120x384 .fp8e4m3) (x3 : Vec F S1x384 .f32) (x4 : Vec F S1x384 .f32) (xc : Vec F S768x5120 .fp8e4m3) (xs : Vec F S768x1 .f32) (am : Vec F S768x1 .f32) (xs0 : Vec F S9x768x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare xc ∗ owns (c : Thread nD τ) arg9 fullShare xs ∗ owns (c : Thread nD τ) arg10 fullShare xs0 ∗ owns (c : Thread nD τ) arg11 fullShare am
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare xc ∗ owns (c : Thread nD τ) arg9 fullShare xs ∗ owns (c : Thread nD τ) arg10 fullShare (VecWindow.put xs0 (k0_off1 i) S1x768x384.size (k0_pay23 x1 x2 xc xs x3 x4)) ∗ owns (c : Thread nD τ) arg11 fullShare (AMs x1 x2 xc xs x3 x4 am)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [cc0_swiglu_gate_up_fp8_eq_skeleton]; unfold cc0_swiglu_gate_up_fp8_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg10.eq_unread hfs0; obtain rfl := harg11.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H7]
  · iexists _; isplitr
    swap; · iexact H7
    ipureintro; exact harg8.read_unread _
  isplitl [H8]
  · iexists _; isplitr
    swap; · iexact H8
    ipureintro; exact harg9.read_unread _
  isplitl [HS0]
  · iexists _; isplitr
    swap; · iexact HS0
    ipureintro; exact put_whole harg10 xs0 _ (pay23_congr (ld_whole harg2 x1 _) (ld_whole harg3 x2 _) (ld_whole harg8 xc _) (ld_whole harg9 xs _) (ld_whole harg4 x3 _) (ld_whole harg5 x4 _))
  iexists _; isplitr
  swap; · iexact HS1
  ipureintro; exact (View.read_writes_full _ _ _ _ _).trans (AMs_congr (ld_whole harg2 x1 _) (ld_whole harg3 x2 _) (ld_whole harg8 xc _) (ld_whole harg9 xs _) (ld_whole harg4 x3 _) (ld_whole harg5 x4 _) (ld_whole harg11 am _))

end Cert.Kernel.Hand

end
-- ==== Proof.Kernel.RunC.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Kernel.Vals

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: it writes the last slice of the scratch and the maxima, then the scales and, tile by tile, the codes of the whole hidden block. -/
theorem runC (c : Dev nD) (i : grid0.Coords) (arg1 : Memref sig .tc .vmem S768x5120 .bf16) (harg1 : arg1.IsWhole) (arg2 : Memref sig .tc .vmem S5120x384 .fp8e4m3) (harg2 : arg2.IsWhole) (arg3 : Memref sig .tc .vmem S5120x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S768x1 .f32) (harg6 : arg6.IsWhole) (arg7 : Memref sig .tc .vmem S768x3456 .fp8e4m3) (harg7 : arg7.IsWhole) (arg8 : Memref sig .tc .vmem S768x5120 .fp8e4m3) (harg8 : arg8.IsWhole) (arg9 : Memref sig .tc .vmem S768x1 .f32) (harg9 : arg9.IsWhole) (arg10 : Memref sig .tc .vmem S9x768x384 .f32) (harg10 : arg10.IsWhole) (arg11 : Memref sig .tc .vmem S768x1 .f32) (harg11 : arg11.IsWhole) (hc0 : ¬k0_cond1 i = 1#1) (hc1 : k0_cond2 i = 1#1)
    (x0 : Vec F S768x5120 .bf16) (x1 : Vec F S5120x384 .fp8e4m3) (x2 : Vec F S5120x384 .fp8e4m3) (x3 : Vec F S1x384 .f32) (x4 : Vec F S1x384 .f32) (xc : Vec F S768x5120 .fp8e4m3) (xs : Vec F S768x1 .f32) (am : Vec F S768x1 .f32) (xs0 : Vec F S9x768x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xc ∗ owns (c : Thread nD τ) arg9 fullShare xs ∗ owns (c : Thread nD τ) arg10 fullShare xs0 ∗ owns (c : Thread nD τ) arg11 fullShare am
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (HS (AMs x1 x2 xc xs x3 x4 am)) ∗ owns (c : Thread nD τ) arg7 fullShare (HC (AMs x1 x2 xc xs x3 x4 am) (slice (VecWindow.put xs0 (k0_off1 i) S1x768x384.size (k0_pay23 x1 x2 xc xs x3 x4)))) ∗ owns (c : Thread nD τ) arg8 fullShare xc ∗ owns (c : Thread nD τ) arg9 fullShare xs ∗ owns (c : Thread nD τ) arg10 fullShare (VecWindow.put xs0 (k0_off1 i) S1x768x384.size (k0_pay23 x1 x2 xc xs x3 x4)) ∗ owns (c : Thread nD τ) arg11 fullShare (AMs x1 x2 xc xs x3 x4 am)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [cc0_swiglu_gate_up_fp8_eq_skeleton]; unfold cc0_swiglu_gate_up_fp8_skel
  simp only [k0_part5_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg10.eq_unread hfs0; obtain rfl := harg11.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; exact (View.read_writes_full _ _ _ _ _).trans (HS_congr ((View.readAt_writes_full _ _ _ _ _ _).trans (AMs_congr (ld_whole harg2 x1 _) (ld_whole harg3 x2 _) (ld_whole harg8 xc _) (ld_whole harg9 xs _) (ld_whole harg4 x3 _) (ld_whole harg5 x4 _) (ld_whole harg11 am _))))
  isplitl [H6]
  · iexists _; isplitr
    swap; · iexact H6
    ipureintro
    funext y
    have hy : (y 1).val < 3456 := (y 1).isLt
    have hm := AMs_congr (ld_whole harg2 x1 inb_S5120x384_S5120x384_0_0) (ld_whole harg3 x2 inb_S5120x384_S5120x384_0_0) (ld_whole harg8 xc inb_S768x5120_S768x5120_0_0) (ld_whole harg9 xs inb_S768x1_S768x1_0_0) (ld_whole harg4 x3 inb_S1x384_S1x384_0_0) (ld_whole harg5 x4 inb_S1x384_S1x384_0_0) (ld_whole harg11 am inb_S768x1_S768x1_0_0)
    have hd := fun inb => put_whole harg10 xs0 (off := k0_off1 i) inb (pay23_congr (ld_whole harg2 x1 inb_S5120x384_S5120x384_0_0) (ld_whole harg3 x2 inb_S5120x384_S5120x384_0_0) (ld_whole harg8 xc inb_S768x5120_S768x5120_0_0) (ld_whole harg9 xs inb_S768x1_S768x1_0_0) (ld_whole harg4 x3 inb_S1x384_S1x384_0_0) (ld_whole harg5 x4 inb_S1x384_S1x384_0_0))
    refine hc_step _ _ _ 8 (by decide) rfl _ _ ?_ _ y fun h8 => ?_
    · exact tile4 (inv_congr ((View.readAt_writes_full _ _ _ _ _ _).trans hm)) (ld_slice (hd _) 8 (by decide) _)
    refine hc_step _ _ _ 7 (by decide) rfl _ _ ?_ _ y fun h7 => ?_
    · exact tile3 (inv_congr ((View.readAt_writes_full _ _ _ _ _ _).trans hm)) (ld_slice (hd _) 7 (by decide) _)
    refine hc_step _ _ _ 6 (by decide) rfl _ _ ?_ _ y fun h6 => ?_
    · exact tile2 (inv_congr ((View.readAt_writes_full _ _ _ _ _ _).trans hm)) (ld_slice (hd _) 6 (by decide) _)
    refine hc_step _ _ _ 5 (by decide) rfl _ _ ?_ _ y fun h5 => ?_
    · exact tile18 (inv_congr ((View.readAt_writes_full _ _ _ _ _ _).trans hm)) (ld_slice (hd _) 5 (by decide) _)
    refine hc_step _ _ _ 4 (by decide) rfl _ _ ?_ _ y fun h4 => ?_
    · exact tile17 (inv_congr ((View.readAt_writes_full _ _ _ _ _ _).trans hm)) (ld_slice (hd _) 4 (by decide) _)
    refine hc_step _ _ _ 3 (by decide) rfl _ _ ?_ _ y fun h3 => ?_
    · exact tile16 (inv_congr ((View.readAt_writes_full _ _ _ _ _ _).trans hm)) (ld_slice (hd _) 3 (by decide) _)
    refine hc_step _ _ _ 2 (by decide) rfl _ _ ?_ _ y fun h2 => ?_
    · exact tile13 (exp_congr ((View.readAt_writes_full _ _ _ _ _ _).trans hm)) (ld_slice (hd _) 2 (by decide) _)
    refine hc_step _ _ _ 1 (by decide) rfl _ _ ?_ _ y fun h1 => ?_
    · exact tile12 (exp_congr ((View.readAt_writes_full _ _ _ _ _ _).trans hm)) (ld_slice (hd _) 1 (by decide) _)
    refine hc_step _ _ _ 0 (by decide) rfl _ _ ?_ _ y fun h0 => ?_
    · exact tile11 (exp_congr ((View.readAt_writes_full _ _ _ _ _ _).trans hm)) (ld_slice (hd _) 0 (by decide) _)
    omega
  isplitl [H7]
  · iexists _; isplitr
    swap; · iexact H7
    ipureintro; exact harg8.read_unread _
  isplitl [H8]
  · iexists _; isplitr
    swap; · iexact H8
    ipureintro; exact harg9.read_unread _
  isplitl [HS0]
  · iexists _; isplitr
    swap; · iexact HS0
    ipureintro; exact put_whole harg10 xs0 _ (pay23_congr (ld_whole harg2 x1 _) (ld_whole harg3 x2 _) (ld_whole harg8 xc _) (ld_whole harg9 xs _) (ld_whole harg4 x3 _) (ld_whole harg5 x4 _))
  iexists _; isplitr
  swap; · iexact HS1
  ipureintro; exact (View.read_writes_full _ _ _ _ _).trans (AMs_congr (ld_whole harg2 x1 _) (ld_whole harg3 x2 _) (ld_whole harg8 xc _) (ld_whole harg9 xs _) (ld_whole harg4 x3 _) (ld_whole harg5 x4 _) (ld_whole harg11 am _))

end Cert.Kernel.Hand

end
-- ==== Proof.Kernel.Frame.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Kernel.Vals
public import proofs.«01_k».proof.Proof.Kernel.RunAB
public import proofs.«01_k».proof.Proof.Kernel.RunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N9 (t : Fin cfg0.N) : t.val < 9 := lt_of_lt_of_eq t.isLt (show cfg0.N = 9 from N_0)
/-- Point `k` of the grid. -/
abbrev pt (k : ℕ) (hk : k < 9) : Fin cfg0.N := ⟨k, lt_of_lt_of_eq hk (show 9 = cfg0.N from N_0.symm)⟩

/-- The body's first branch runs at the first point only, its last branch at the last point only. -/
theorem hcond1 : ∀ t : Fin cfg0.N, k0_cond1 (grid0.coords t) = 1#1 ↔ t.val = 0 := by decide +kernel
theorem hcond2 : ∀ t : Fin cfg0.N, k0_cond2 (grid0.coords t) = 1#1 ↔ t.val = 8 := by decide +kernel
/-- Point `t` stores slice `t` of the scratch. -/
theorem hoff : ∀ t : Fin cfg0.N, k0_off1 (grid0.coords t) = ![t.val, 0, 0] := by decide +kernel
/-- The hidden block's results are stored at the last point only, the activations' at the first only. -/
theorem idle5 : ∀ t : Fin cfg0.N, cfg0.idle 5 (grid0.coords t) = !(t.val == 8) := by decide +kernel
theorem idle6 : ∀ t : Fin cfg0.N, cfg0.idle 6 (grid0.coords t) = !(t.val == 8) := by decide +kernel
theorem idle7 : ∀ t : Fin cfg0.N, cfg0.idle 7 (grid0.coords t) = !(t.val == 0) := by decide +kernel
theorem idle8 : ∀ t : Fin cfg0.N, cfg0.idle 8 (grid0.coords t) = !(t.val == 0) := by decide +kernel
/-- Every result's block is written back after the last point only. -/
theorem flush5 : ∀ t : Fin cfg0.N, (cfg0.win 5).flush t = (t.val == 8) := by decide +kernel
theorem flush6 : ∀ t : Fin cfg0.N, (cfg0.win 6).flush t = (t.val == 8) := by decide +kernel
theorem flush7 : ∀ t : Fin cfg0.N, (cfg0.win 7).flush t = (t.val == 8) := by decide +kernel
theorem flush8 : ∀ t : Fin cfg0.N, (cfg0.win 8).flush t = (t.val == 8) := by decide +kernel
theorem fetch7 : ∀ t : Fin cfg0.N, (cfg0.win 7).fetch t = false := by decide +kernel
theorem fetch8 : ∀ t : Fin cfg0.N, (cfg0.win 8).fetch t = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
abbrev ms0 (t : Fin cfg0.N) : Memref sig .tc .vmem S768x5120 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S5120x384 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S5120x384 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S768x3456 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S768x5120 .fp8e4m3 := win0_7.stage (cfg0.slots t 7)
abbrev hs7 (t : Fin cfg0.N) : (ms7 t).IsWhole := hstage0_7 ((cfg0.slots t 7).cast nbuf0_7)
abbrev ms8 (t : Fin cfg0.N) : Memref sig .tc .vmem S768x1 .f32 := win0_8.stage (cfg0.slots t 8)
abbrev hs8 (t : Fin cfg0.N) : (ms8 t).IsWhole := hstage0_8 ((cfg0.slots t 8).cast nbuf0_8)

/-- The scratch operands. -/
abbrev scM0 : Memref sig .tc .vmem S9x768x384 .f32 := Memref.whole cc0_scratch0
abbrev scM1 : Memref sig .tc .vmem S768x1 .f32 := Memref.whole cc0_scratch1

/-! ## What the run computes -/

/-- The codes and the scales of the activations. -/
def xcOf (c : Dev nD) : Vec F S768x5120 .fp8e4m3 := XC (iblk m c 0 (pt 0 (by decide)))
def xsOf (c : Dev nD) : Vec F S768x1 .f32 := XS (iblk m c 0 (pt 0 (by decide)))
/-- The hidden block's column tile `k`. -/
def htOf (c : Dev nD) (k : ℕ) (hk : k < 9) : Vec F S1x768x384 .f32 :=
  k0_pay23 (iblk m c 1 (pt k hk)) (iblk m c 2 (pt k hk)) (xcOf m c) (xsOf m c) (iblk m c 3 (pt k hk)) (iblk m c 4 (pt k hk))
/-- The running row maxima of the hidden block before point `n`. -/
def amOf (c : Dev nD) : ℕ → Vec F S768x1 .f32
  | 0 => k0_pay21 (F := F)
  | n + 1 => if h : n < 9 then AMs (iblk m c 1 (pt n h)) (iblk m c 2 (pt n h)) (xcOf m c) (xsOf m c) (iblk m c 3 (pt n h)) (iblk m c 4 (pt n h)) (amOf c n) else amOf c n
/-- The scales and the codes of the hidden block. -/
def hsOf (c : Dev nD) : Vec F S768x1 .f32 := HS (amOf m c 9)
def hcOf (c : Dev nD) : Vec F S768x3456 .fp8e4m3 := HC (amOf m c 9) (htOf m c)

theorem amOf_zero (c : Dev nD) : amOf m c 0 = k0_pay21 (F := F) := rfl
theorem amOf_succ (c : Dev nD) (n : ℕ) (h : n < 9) :
    amOf m c (n + 1) = AMs (iblk m c 1 (pt n h)) (iblk m c 2 (pt n h)) (xcOf m c) (xsOf m c) (iblk m c 3 (pt n h)) (iblk m c 4 (pt n h)) (amOf m c n) := by
  rw [amOf, dif_pos h]

/-- The invariant before point `n`: the scratch's first `n` slices hold the hidden block's first `n` column tiles, the
    other scratch (past the first point) the running maxima, the generator register anything. -/
def PhiS (c : Dev nD) (n : ℕ) (_ : n ≤ cfg0.N) : sProp 𝕄 :=
  iprop((∃ D : Vec F S9x768x384 .f32, ⌜∀ (k : ℕ) (hk : k < 9), k < n → slice D k hk = htOf m c k hk⌝ ∗ owns (c : Thread nD τ) scM0 fullShare D)
    ∗ (∃ a : Vec F S768x1 .f32, ⌜n ≠ 0 → a = amOf m c n⌝ ∗ owns (c : Thread nD τ) scM1 fullShare a) ∗ (∃ r, prngReg c r))

/-- The proof data of the pipeline: each input's buffer at its block; the results' at the final values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsOf m c
    | ⟨6, _⟩ => hcOf m c
    | ⟨7, _⟩ => xcOf m c
    | ⟨8, _⟩ => xsOf m c
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hsOf m c := by dsimp only [dats]
theorem after6 (c : Dev nD) (t : Fin cfg0.N) : (dats m 0 c).after 6 t = hcOf m c := by dsimp only [dats]
theorem after7 (c : Dev nD) (t : Fin cfg0.N) : (dats m 0 c).after 7 t = xcOf m c := by dsimp only [dats]
theorem after8 (c : Dev nD) (t : Fin cfg0.N) : (dats m 0 c).after 8 t = xsOf m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Past the first point the buffer of window 7 holds what the first point stored. -/
theorem before7 (c : Dev nD) : ∀ (n : ℕ) (t : Fin cfg0.N) (_ : t.val = n + 1) (d), (dats m 0 c).before 7 t d = xcOf m c := by
  intro n
  induction n with
  | zero =>
    intro t ht d
    rw [(dats m 0 c).before_of_pos 7 t (by omega) (fetch7 t)]
    have hf := flush7 ⟨t.val - 1, Nat.lt_of_le_of_lt (Nat.sub_le _ _) t.isLt⟩
    have hi := idle7 ⟨t.val - 1, Nat.lt_of_le_of_lt (Nat.sub_le _ _) t.isLt⟩
    rw [if_neg (by rw [hf]; simp only [beq_iff_eq]; omega)]
    unfold Dat.left
    rw [show cfg0.idle 7 (cfg0.grid.coords ⟨t.val - 1, Nat.lt_of_le_of_lt (Nat.sub_le _ _) t.isLt⟩) = false from hi.trans (by
      simp only [Bool.not_eq_false', beq_iff_eq]; omega)]
    exact after7 m c _
  | succ n ih =>
    intro t ht d
    have hN := N9 t
    rw [(dats m 0 c).before_of_pos 7 t (by omega) (fetch7 t)]
    have hf := flush7 ⟨t.val - 1, Nat.lt_of_le_of_lt (Nat.sub_le _ _) t.isLt⟩
    have hi := idle7 ⟨t.val - 1, Nat.lt_of_le_of_lt (Nat.sub_le _ _) t.isLt⟩
    rw [if_neg (by rw [hf]; simp only [beq_iff_eq]; omega)]
    unfold Dat.left
    rw [show cfg0.idle 7 (cfg0.grid.coords ⟨t.val - 1, Nat.lt_of_le_of_lt (Nat.sub_le _ _) t.isLt⟩) = true from hi.trans (by
      simp only [Bool.not_eq_true', beq_eq_false_iff_ne, ne_eq]; omega)]
    exact ih ⟨t.val - 1, Nat.lt_of_le_of_lt (Nat.sub_le _ _) t.isLt⟩ (by show t.val - 1 = n + 1; omega) d

/-- Past the first point the buffer of window 8 holds what the first point stored. -/
theorem before8 (c : Dev nD) : ∀ (n : ℕ) (t : Fin cfg0.N) (_ : t.val = n + 1) (d), (dats m 0 c).before 8 t d = xsOf m c := by
  intro n
  induction n with
  | zero =>
    intro t ht d
    rw [(dats m 0 c).before_of_pos 8 t (by omega) (fetch8 t)]
    have hf := flush8 ⟨t.val - 1, Nat.lt_of_le_of_lt (Nat.sub_le _ _) t.isLt⟩
    have hi := idle8 ⟨t.val - 1, Nat.lt_of_le_of_lt (Nat.sub_le _ _) t.isLt⟩
    rw [if_neg (by rw [hf]; simp only [beq_iff_eq]; omega)]
    unfold Dat.left
    rw [show cfg0.idle 8 (cfg0.grid.coords ⟨t.val - 1, Nat.lt_of_le_of_lt (Nat.sub_le _ _) t.isLt⟩) = false from hi.trans (by
      simp only [Bool.not_eq_false', beq_iff_eq]; omega)]
    exact after8 m c _
  | succ n ih =>
    intro t ht d
    have hN := N9 t
    rw [(dats m 0 c).before_of_pos 8 t (by omega) (fetch8 t)]
    have hf := flush8 ⟨t.val - 1, Nat.lt_of_le_of_lt (Nat.sub_le _ _) t.isLt⟩
    have hi := idle8 ⟨t.val - 1, Nat.lt_of_le_of_lt (Nat.sub_le _ _) t.isLt⟩
    rw [if_neg (by rw [hf]; simp only [beq_iff_eq]; omega)]
    unfold Dat.left
    rw [show cfg0.idle 8 (cfg0.grid.coords ⟨t.val - 1, Nat.lt_of_le_of_lt (Nat.sub_le _ _) t.isLt⟩) = true from hi.trans (by
      simp only [Bool.not_eq_true', beq_eq_false_iff_ne, ne_eq]; omega)]
    exact ih ⟨t.val - 1, Nat.lt_of_le_of_lt (Nat.sub_le _ _) t.isLt⟩ (by show t.val - 1 = n + 1; omega) d

theorem leave7 (c : Dev nD) (t : Fin cfg0.N) : (owns (c : Thread nD τ) (ms7 t) fullShare (xcOf m c) : sProp 𝕄) ⊢ (dats m 0 c).leavesExact 7 t := by
  have hi := idle7 t
  have hf := flush7 t
  by_cases h0 : t.val = 0
  · rw [h0] at hi
    unfold Dat.leavesExact
    rw [show cfg0.idle 7 (cfg0.grid.coords t) = false from hi.trans (by decide), after7]
  · by_cases h8 : t.val = 8
    · rw [h8] at hi hf
      unfold Dat.leavesExact
      rw [show cfg0.idle 7 (cfg0.grid.coords t) = true from hi.trans (by decide), show (cfg0.win 7).flush t = true from hf.trans (by decide), after7]
    · rw [Dat.leavesExact_idle (dats m 0 c) 7 t (hi.trans (by simp only [Bool.not_eq_true', beq_eq_false_iff_ne, ne_eq]; omega)) (hf.trans (by simp only [beq_eq_false_iff_ne, ne_eq]; omega))]
      iintro H
      iexists (xcOf m c)
      rw [before7 m c (t.val - 1) t (by omega)]
      iexact H

theorem leave8 (c : Dev nD) (t : Fin cfg0.N) : (owns (c : Thread nD τ) (ms8 t) fullShare (xsOf m c) : sProp 𝕄) ⊢ (dats m 0 c).leavesExact 8 t := by
  have hi := idle8 t
  have hf := flush8 t
  by_cases h0 : t.val = 0
  · rw [h0] at hi
    unfold Dat.leavesExact
    rw [show cfg0.idle 8 (cfg0.grid.coords t) = false from hi.trans (by decide), after8]
  · by_cases h8 : t.val = 8
    · rw [h8] at hi hf
      unfold Dat.leavesExact
      rw [show cfg0.idle 8 (cfg0.grid.coords t) = true from hi.trans (by decide), show (cfg0.win 8).flush t = true from hf.trans (by decide), after8]
    · rw [Dat.leavesExact_idle (dats m 0 c) 8 t (hi.trans (by simp only [Bool.not_eq_true', beq_eq_false_iff_ne, ne_eq]; omega)) (hf.trans (by simp only [beq_eq_false_iff_ne, ne_eq]; omega))]
      iintro H
      iexists (xsOf m c)
      rw [before8 m c (t.val - 1) t (by omega)]
      iexact H

theorem leave5_idle (c : Dev nD) (t : Fin cfg0.N) (h : t.val ≠ 8) :
    (dats m 0 c).leavesExact 5 t = iprop(∃ d, owns (c : Thread nD τ) (ms5 t) fullShare ((dats m 0 c).before 5 t d)) :=
  Dat.leavesExact_idle (dats m 0 c) 5 t ((idle5 t).trans (by simp only [Bool.not_eq_true', beq_eq_false_iff_ne, ne_eq]; omega)) ((flush5 t).trans (by simp only [beq_eq_false_iff_ne, ne_eq]; omega))
theorem leave5_last (c : Dev nD) (t : Fin cfg0.N) (h : t.val = 8) :
    (dats m 0 c).leavesExact 5 t = owns (c : Thread nD τ) (ms5 t) fullShare (hsOf m c) := by
  have hi := idle5 t
  rw [h] at hi
  unfold Dat.leavesExact
  rw [show cfg0.idle 5 (cfg0.grid.coords t) = false from hi.trans (by decide), after5]

theorem leave6_idle (c : Dev nD) (t : Fin cfg0.N) (h : t.val ≠ 8) :
    (dats m 0 c).leavesExact 6 t = iprop(∃ d, owns (c : Thread nD τ) (ms6 t) fullShare ((dats m 0 c).before 6 t d)) :=
  Dat.leavesExact_idle (dats m 0 c) 6 t ((idle6 t).trans (by simp only [Bool.not_eq_true', beq_eq_false_iff_ne, ne_eq]; omega)) ((flush6 t).trans (by simp only [beq_eq_false_iff_ne, ne_eq]; omega))
theorem leave6_last (c : Dev nD) (t : Fin cfg0.N) (h : t.val = 8) :
    (dats m 0 c).leavesExact 6 t = owns (c : Thread nD τ) (ms6 t) fullShare (hcOf m c) := by
  have hi := idle6 t
  rw [h] at hi
  unfold Dat.leavesExact
  rw [show cfg0.idle 6 (cfg0.grid.coords t) = false from hi.trans (by decide), after6]
theorem leave0 (c : Dev nD) (t : Fin cfg0.N) : (dats m 0 c).leavesExact 0 t = owns (c : Thread nD τ) (ms0 t) fullShare (iblk m c 0 t) := by
  unfold Dat.leavesExact; rw [live0 t, after0]
theorem leave1 (c : Dev nD) (t : Fin cfg0.N) : (dats m 0 c).leavesExact 1 t = owns (c : Thread nD τ) (ms1 t) fullShare (iblk m c 1 t) := by
  unfold Dat.leavesExact; rw [live1 t, after1]
theorem leave2 (c : Dev nD) (t : Fin cfg0.N) : (dats m 0 c).leavesExact 2 t = owns (c : Thread nD τ) (ms2 t) fullShare (iblk m c 2 t) := by
  unfold Dat.leavesExact; rw [live2 t, after2]
theorem leave3 (c : Dev nD) (t : Fin cfg0.N) : (dats m 0 c).leavesExact 3 t = owns (c : Thread nD τ) (ms3 t) fullShare (iblk m c 3 t) := by
  unfold Dat.leavesExact; rw [live3 t, after3]
theorem leave4 (c : Dev nD) (t : Fin cfg0.N) : (dats m 0 c).leavesExact 4 t = owns (c : Thread nD τ) (ms4 t) fullShare (iblk m c 4 t) := by
  unfold Dat.leavesExact; rw [live4 t, after4]

/-! ## The body at every point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Storing this point's slice keeps the invariant on the scratch. -/
theorem slices_step (c : Dev nD) (t : Fin cfg0.N) (D : Vec F S9x768x384 .f32) (w : Vec F S1x768x384 .f32)
    (hD : ∀ (k : ℕ) (hk : k < 9), k < t.val → slice D k hk = htOf m c k hk) (hw : w = htOf m c t.val (N9 t)) :
    ∀ (k : ℕ) (hk : k < 9), k < t.val + 1 → slice (VecWindow.put D (k0_off1 (grid0.coords t)) S1x768x384.size w) k hk = htOf m c k hk := by
  intro k hk hlt
  rw [hoff t]
  by_cases h : k = t.val
  · subst h; rw [slice_put_same]; exact hw
  · rw [slice_put_ne _ _ _ _ _ h]; exact hD k hk (by omega)

set_option maxHeartbeats 2000000 in
/-- The body at the first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_castSucc m c t]
  rw [leave0, leave1, leave2, leave3, leave4, leave5_idle m c t (by omega), leave6_idle m c t (by omega)]
  unfold PhiS
  have ht : t = pt 0 (by decide) := Fin.ext h0
  have hxc : XC (iblk m c 0 t) = xcOf m c := by rw [ht]; rfl
  have hxs : XS (iblk m c 0 t) = xsOf m c := by rw [ht]; rfl
  iintro ⟨⟨⟨%D, %hD, HS0⟩, ⟨%a, %ha, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond1 t).mpr h0) (fun h => by have := (hcond2 t).mp h; omega) (iblk m c 0 t) (iblk m c 1 t) (iblk m c 2 t) (iblk m c 3 t) (iblk m c 4 t) D Set.univ _)
  isplitl [H0]; · iexact H0
  isplitl [H1]; · iexact H1
  isplitl [H2]; · iexact H2
  isplitl [H3]; · iexact H3
  isplitl [H4]; · iexact H4
  isplitl [H7]; · iexists _; iexact H7
  isplitl [H8]; · iexists _; iexact H8
  isplitl [HS0]; · iexact HS0
  isplitl [HS1]; · iexists _; iexact HS1
  rw [hxc, hxs]
  iintro ⟨H0, H1, H2, H3, H4, H7, H8, HS0, HS1⟩
  isplitl [HS0 HS1 Hg]
  · isplitl [HS0]
    · iexists _; isplitr
      swap; · iexact HS0
      ipureintro; exact slices_step m c t D _ hD (by subst ht; rfl)
    isplitl [HS1]
    · iexists _; isplitr
      swap; · iexact HS1
      ipureintro; intro _; exact (by subst ht; rfl)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iapply (leave7 m c t); iexact H7
  iapply (leave8 m c t); iexact H8

set_option maxHeartbeats 2000000 in
/-- The body at a middle point. -/
theorem sound_mid (c : Dev nD) (t : Fin cfg0.N) (h0 : t.val ≠ 0) (h8 : t.val ≠ 8) :
    bodyPre m c t ⊢ wp frame (wpE (defs₀ (F := F)) Variants.none c none) Set.univ (bodyAt0 t) (fun _ => bodyPost m c t) := by
  unfold bodyPre bodyPost bodyAt0
  simp only [before0, before1, before2, before3, before4, before7 m c (t.val - 1) t (by omega), before8 m c (t.val - 1) t (by omega)]
  rw [show (dats m 0 c).owesAt () t.succ = (dats m 0 c).owesAt () t.castSucc from rfl]
  rw [show (dats m 0 c).Φ t.succ = PhiS m c (t.val + 1) t.isLt from rfl, PhiS_castSucc m c t]
  rw [leave0, leave1, leave2, leave3, leave4, leave5_idle m c t h8, leave6_idle m c t h8]
  unfold PhiS
  iintro ⟨⟨⟨%D, %hD, HS0⟩, ⟨%a, %ha, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha h0
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond1 t).mp h)) (fun h => h8 ((hcond2 t).mp h)) (iblk m c 0 t) (iblk m c 1 t) (iblk m c 2 t) (iblk m c 3 t) (iblk m c 4 t) (xcOf m c) (xsOf m c) (amOf m c t.val) D Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [HS0]; · iexact HS0
  isplitl [HS1]; · iexact HS1
  iintro ⟨H0, H1, H2, H3, H4, H7, H8, HS0, HS1⟩
  isplitl [HS0 HS1 Hg]
  · isplitl [HS0]
    · iexists _; isplitr
      swap; · iexact HS0
      ipureintro; exact slices_step m c t D _ hD rfl
    isplitl [HS1]
    · iexists _; isplitr
      swap; · iexact HS1
      ipureintro; intro _; exact (amOf_succ m c t.val (N9 t)).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iapply (leave7 m c t); iexact H7
  iapply (leave8 m c t); iexact H8

set_option maxHeartbeats 2000000 in
/-- The body at the last point. -/
theorem sound_last (c : Dev nD) (t : Fin cfg0.N) (h8 : t.val = 8) :
    bodyPre m c t ⊢ wp frame (wpE (defs₀ (F := F)) Variants.none c none) Set.univ (bodyAt0 t) (fun _ => bodyPost m c t) := by
  unfold bodyPre bodyPost bodyAt0
  simp only [before0, before1, before2, before3, before4, before7 m c (t.val - 1) t (by omega), before8 m c (t.val - 1) t (by omega)]
  rw [show (dats m 0 c).owesAt () t.succ = (dats m 0 c).owesAt () t.castSucc from rfl]
  rw [show (dats m 0 c).Φ t.succ = PhiS m c (t.val + 1) t.isLt from rfl, PhiS_castSucc m c t]
  rw [leave0, leave1, leave2, leave3, leave4, leave5_last m c t h8, leave6_last m c t h8]
  unfold PhiS
  iintro ⟨⟨⟨%D, %hD, HS0⟩, ⟨%a, %ha, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha (by omega)
  have hs := slices_step m c t D (k0_pay23 (iblk m c 1 t) (iblk m c 2 t) (xcOf m c) (xsOf m c) (iblk m c 3 t) (iblk m c 4 t)) hD rfl
  have ha9 : AMs (iblk m c 1 t) (iblk m c 2 t) (xcOf m c) (xsOf m c) (iblk m c 3 t) (iblk m c 4 t) (amOf m c t.val) = amOf m c 9 :=
    (amOf_succ m c t.val (N9 t)).symm.trans (by rw [h8])
  have hS : slice (VecWindow.put D (k0_off1 (grid0.coords t)) S1x768x384.size (k0_pay23 (iblk m c 1 t) (iblk m c 2 t) (xcOf m c) (xsOf m c) (iblk m c 3 t) (iblk m c 4 t))) = htOf m c :=
    funext fun k => funext fun hk => hs k hk (by omega)
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => by have := (hcond1 t).mp h; omega) ((hcond2 t).mpr h8) (iblk m c 0 t) (iblk m c 1 t) (iblk m c 2 t) (iblk m c 3 t) (iblk m c 4 t) (xcOf m c) (xsOf m c) (amOf m c t.val) D Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  isplitl [HS1]; · iexact HS1
  rw [ha9, hS]
  iintro ⟨H0, H1, H2, H3, H4, H5, H6, H7, H8, HS0, HS1⟩
  isplitl [HS0 HS1 Hg]
  · isplitl [HS0]
    · iexists _; isplitr
      swap; · iexact HS0
      ipureintro; exact slices_step m c t D _ hD rfl
    isplitl [HS1]
    · iexists _; isplitr
      swap; · iexact HS1
      ipureintro; intro _; exact (by rw [h8])
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leave7 m c t); iexact H7
  iapply (leave8 m c t); iexact H8

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h8 : t.val = 8
    · exact sound_last m c t h8
    · exact sound_mid m c t h0 h8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The kit's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%dS0, HS0⟩, ⟨%dS1, HS1⟩⟩, Hg⟩
  isplitl [HS0]
  · iexists dS0; isplitr
    · ipureintro; intro k hk h; omega
    iexact HS0
  isplitl [HS1]
  · iexists dS1; isplitr
    · ipureintro; intro h; omega
    iexact HS1
  iexact Hg

/-- and after the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%D, %hD, HS0⟩, ⟨%a, %ha, HS1⟩, Hg⟩
  isplitl [HS0 HS1]
  · isplitl [HS0]
    · iexists _; iexact HS0
    iexists _; iexact HS1
  iexact Hg

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.KernelIdeal.Vals.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores, as functions of what it loads -/

/-- The codes of the activations `x`: `x` times the reciprocal of its row's scale, clipped to ±448, in fp8. -/
def XC (x : Vec F S768x5120 .bf16) : Vec F S768x5120 .fp8e4m3 := k0_pay20 (k0_pay5 x) (k0_pay6 x)
/-- The row scales of the activations `x`. -/
def XS (x : Vec F S768x5120 .bf16) : Vec F S768x1 .f32 := k0_pay19 (F := F) (k0_pay6 x)
/-- The running row maximum `am` raised by the rows of one column tile's hidden block. -/
def AMs (wg wu : Vec F S5120x384 .fp8e4m3) (xc : Vec F S768x5120 .fp8e4m3) (xs : Vec F S768x1 .f32) (sg su : Vec F S1x384 .f32) (am : Vec F S768x1 .f32) : Vec F S768x1 .f32 :=
  k0_pay1 (k0_pay24 wg wu xc xs sg su am)
/-- The row scales of the hidden block, from its row maxima `am`. -/
def HS (am : Vec F S768x1 .f32) : Vec F S768x1 .f32 := k0_pay9 (F := F) (k0_pay8 am)

theorem tile_inb (k : ℕ) (hk : k < 9) : ∀ a : Fin S9x768x384.rank, (![k, 0, 0] : Fin 3 → ℕ) a + S1x768x384.size a ≤ S9x768x384.size a := by
  intro a; match a with
  | ⟨0, _⟩ => show k + 1 ≤ 9; omega
  | ⟨1, _⟩ => show 0 + 768 ≤ 768; omega
  | ⟨2, _⟩ => show 0 + 384 ≤ 384; omega

/-- Slice `k` of the scratch that holds the hidden block, one slice per column tile. -/
def slice (D : Vec F S9x768x384 .f32) (k : ℕ) (hk : k < 9) : Vec F S1x768x384 .f32 :=
  VecWindow.window D (![k, 0, 0] : Fin 3 → ℕ) S1x768x384.size (tile_inb k hk)

/-- The place of index `y` of the hidden block within its column tile. -/
def inTile (y : S768x3456.Idx) : S768x384.Idx :=
  fun | ⟨0, _⟩ => ⟨(y 0).val, (y 0).isLt⟩ | ⟨1, _⟩ => ⟨(y 1).val % 384, Nat.mod_lt _ (by decide)⟩

/-- The codes of the hidden block: column `n` is column `n % 384` of the codes of slice `n / 384` of `S`. -/
def HC (am : Vec F S768x1 .f32) (S : (k : ℕ) → k < 9 → Vec F S1x768x384 .f32) : Vec F S768x3456 .fp8e4m3 := fun y =>
  k0_pay2 (k0_pay10 (F := F) (k0_pay7 am)) (S ((y 1).val / 384) (by have h : (y 1).val < 3456 := (y 1).isLt; omega)) (inTile y)

/-- Storing slice `n` changes that slice and no other. -/
theorem slice_put_same (D : Vec F S9x768x384 .f32) (n : ℕ) (hn : n < 9) (w : Vec F S1x768x384 .f32) :
    slice (VecWindow.put D (![n, 0, 0] : Fin 3 → ℕ) S1x768x384.size w) n hn = w :=
  VecWindow.window_put_same D (![n, 0, 0] : Fin 3 → ℕ) S1x768x384.size (tile_inb n hn) w
theorem slice_put_ne (D : Vec F S9x768x384 .f32) (n : ℕ) (w : Vec F S1x768x384 .f32) (k : ℕ) (hk : k < 9) (h : k ≠ n) :
    slice (VecWindow.put D (![n, 0, 0] : Fin 3 → ℕ) S1x768x384.size w) k hk = slice D k hk :=
  VecWindow.window_put_of_disjoint D (![n, 0, 0] : Fin 3 → ℕ) S1x768x384.size _ _ (tile_inb k hk) w (0 : Fin 3)
    (by show k + 1 ≤ n ∨ n + 1 ≤ k; omega)

/-! ## Loads and stores of whole memrefs -/

theorem ld_whole {s : Shape} {e : EltTy} {mr : Memref sig .tc .vmem s e} (h : mr.IsWhole) (x : Vec F s e) {off : Fin s.rank → ℕ}
    (inb : ∀ a, off a + s.size a ≤ s.size a) :
    View.readAt (Elt F) mr.view (Rect.unit off s.size inb).toLoadRect (h.unread x) = x :=
  (View.readAt_full _ _ inb).trans (h.read_unread x)

theorem XC_congr {x x' : Vec F S768x5120 .bf16} (h : x = x') : k0_pay20 (k0_pay5 x) (k0_pay6 x) = XC x' := by rw [h]; rfl
theorem XS_congr {x x' : Vec F S768x5120 .bf16} (h : x = x') : k0_pay19 (F := F) (k0_pay6 x) = XS x' := by rw [h]; rfl
theorem pay23_congr {a a' b b' : Vec F S5120x384 .fp8e4m3} {x x' : Vec F S768x5120 .fp8e4m3} {s s' : Vec F S768x1 .f32} {g g' u u' : Vec F S1x384 .f32}
    (ha : a = a') (hb : b = b') (hx : x = x') (hs : s = s') (hg : g = g') (hu : u = u') : k0_pay23 a b x s g u = k0_pay23 a' b' x' s' g' u' := by
  rw [ha, hb, hx, hs, hg, hu]
theorem AMs_congr {a a' b b' : Vec F S5120x384 .fp8e4m3} {x x' : Vec F S768x5120 .fp8e4m3} {s s' : Vec F S768x1 .f32} {g g' u u' : Vec F S1x384 .f32} {m m' : Vec F S768x1 .f32}
    (ha : a = a') (hb : b = b') (hx : x = x') (hs : s = s') (hg : g = g') (hu : u = u') (hm : m = m') : k0_pay1 (k0_pay24 a b x s g u m) = AMs a' b' x' s' g' u' m' := by
  rw [ha, hb, hx, hs, hg, hu, hm]; rfl
theorem HS_congr {m m' : Vec F S768x1 .f32} (h : m = m') : k0_pay9 (F := F) (k0_pay8 m) = HS m' := by rw [h]; rfl

/-- A store into slice `off` of the scratch leaves the rest of it as it was. -/
theorem put_whole {mr : Memref sig .tc .vmem S9x768x384 .f32} (h : mr.IsWhole) (xs0 : Vec F S9x768x384 .f32) {off : Fin 3 → ℕ}
    (inb : ∀ a, off a + S1x768x384.size a ≤ S9x768x384.size a) {w w' : Vec F S1x768x384 .f32} (hw : w = w') :
    mr.view.read (Elt F) (mr.view.writes (Elt F) (h.unread xs0) [⟨Rect.unit (s := S9x768x384) off S1x768x384.size inb, w⟩])
      = VecWindow.put xs0 off S1x768x384.size w' := by
  subst hw
  exact (View.read_writes_cons_put mr.view (h.unread xs0) inb w [] rfl).trans (congrArg (fun X : S9x768x384.Idx → Elt F .f32 => VecWindow.put X off S1x768x384.size w) (h.read_unread xs0))

/-- The codes of column tile `k` of the hidden block stored over the tiles already stored. -/
theorem hc_step {mr : Memref sig .tc .vmem S768x3456 .fp8e4m3} (f : mr.view.ty.Contents (Elt F)) (am : Vec F S768x1 .f32) (D : Vec F S9x768x384 .f32)
    (k : ℕ) (hk : k < 9) {off : Fin 2 → ℕ} (hoff : off = ![0, 384 * k]) (inb : ∀ a, off a + S768x384.size a ≤ S768x3456.size a)
    (p : Vec F S768x384 .fp8e4m3) (hp : p = k0_pay2 (k0_pay10 (F := F) (k0_pay7 am)) (slice D k hk)) (L : List (View.Piece (Elt F) S768x3456 .fp8e4m3)) (y : S768x3456.Idx)
    (rest : (y 1).val / 384 ≠ k → mr.view.read (Elt F) (mr.view.writes (Elt F) f L) y = HC am (slice D) y) :
    mr.view.read (Elt F) (mr.view.writes (Elt F) f (⟨Rect.unit (s := S768x3456) off S768x384.size inb, p⟩ :: L)) y = HC am (slice D) y := by
  subst hoff
  have h0 : (y 0).val < 768 := (y 0).isLt
  have h1 : (y 1).val < 3456 := (y 1).isLt
  by_cases h : (y 1).val / 384 = k
  · refine (View.read_writes_cons_unit_of_mem mr.view f inb p L y (inTile y) rfl ?_).trans ?_
    · intro a; match a with
      | ⟨0, _⟩ => show (y 0).val = 0 + (y 0).val; omega
      | ⟨1, _⟩ => show (y 1).val = 384 * k + (y 1).val % 384; omega
    · subst h; rw [hp]; unfold HC; rfl
  · refine (View.read_writes_cons_unit_of_not_mem mr.view f inb p L y rfl 1 ?_).trans (rest h)
    show (y 1).val < 384 * k ∨ 384 * k + 384 ≤ (y 1).val
    omega

theorem inv_congr {m m' : Vec F S768x1 .f32} (h : m = m') : k0_pay10 (F := F) (k0_pay7 m) = k0_pay10 (F := F) (k0_pay7 m') := by rw [h]
theorem exp_congr {m m' : Vec F S768x1 .f32} (h : m = m') : k0_pay7 (F := F) m = k0_pay7 m' := by rw [h]
theorem tile2 {a a' : Vec F S768x1 .f32} {s s' : Vec F S1x768x384 .f32} (ha : a = a') (hs : s = s') : k0_pay2 a s = k0_pay2 a' s' := by subst ha; subst hs; rfl
theorem tile3 {a a' : Vec F S768x1 .f32} {s s' : Vec F S1x768x384 .f32} (ha : a = a') (hs : s = s') : k0_pay3 a s = k0_pay2 a' s' := by subst ha; subst hs; rfl
theorem tile4 {a a' : Vec F S768x1 .f32} {s s' : Vec F S1x768x384 .f32} (ha : a = a') (hs : s = s') : k0_pay4 a s = k0_pay2 a' s' := by subst ha; subst hs; rfl
theorem tile16 {a a' : Vec F S768x1 .f32} {s s' : Vec F S1x768x384 .f32} (ha : a = a') (hs : s = s') : k0_pay16 a s = k0_pay2 a' s' := by subst ha; subst hs; rfl
theorem tile17 {a a' : Vec F S768x1 .f32} {s s' : Vec F S1x768x384 .f32} (ha : a = a') (hs : s = s') : k0_pay17 a s = k0_pay2 a' s' := by subst ha; subst hs; rfl
theorem tile18 {a a' : Vec F S768x1 .f32} {s s' : Vec F S1x768x384 .f32} (ha : a = a') (hs : s = s') : k0_pay18 a s = k0_pay2 a' s' := by subst ha; subst hs; rfl
theorem tile11 {a a' : IVec S768x1 32} {s s' : Vec F S1x768x384 .f32} (ha : a = a') (hs : s = s') : k0_pay11 a s = k0_pay2 (k0_pay10 (F := F) a') s' := by subst ha; subst hs; rfl
theorem tile12 {a a' : IVec S768x1 32} {s s' : Vec F S1x768x384 .f32} (ha : a = a') (hs : s = s') : k0_pay12 a s = k0_pay2 (k0_pay10 (F := F) a') s' := by subst ha; subst hs; rfl
theorem tile13 {a a' : IVec S768x1 32} {s s' : Vec F S1x768x384 .f32} (ha : a = a') (hs : s = s') : k0_pay15 (k0_pay13 a s) k0_pay14 = k0_pay2 (k0_pay10 (F := F) a') s' := by subst ha; subst hs; rfl

/-- A load of slice `k` of the scratch. -/
theorem ld_slice {mr : Memref sig .tc .vmem S9x768x384 .f32} {f : mr.view.ty.Contents (Elt F)} {D : Vec F S9x768x384 .f32} (h : mr.view.read (Elt F) f = D)
    (k : ℕ) (hk : k < 9) (inb : ∀ a, (![k, 0, 0] : Fin 3 → ℕ) a + S1x768x384.size a ≤ S9x768x384.size a) :
    View.readAt (Elt F) mr.view (Rect.unit (s := S9x768x384) ![k, 0, 0] S1x768x384.size inb).toLoadRect f = slice D k hk := by
  subst h; rfl

end Cert.KernelIdeal.Hand

end
-- ==== Proof.KernelIdeal.RunAB.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KernelIdeal.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it writes the codes and scales of the activations, then this point's slice of the scratch, and the running maxima from zero. -/
theorem runA (c : Dev nD) (i : grid0.Coords) (arg1 : Memref sig .tc .vmem S768x5120 .bf16) (harg1 : arg1.IsWhole) (arg2 : Memref sig .tc .vmem S5120x384 .fp8e4m3) (harg2 : arg2.IsWhole) (arg3 : Memref sig .tc .vmem S5120x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S768x1 .f32) (harg6 : arg6.IsWhole) (arg7 : Memref sig .tc .vmem S768x3456 .fp8e4m3) (harg7 : arg7.IsWhole) (arg8 : Memref sig .tc .vmem S768x5120 .fp8e4m3) (harg8 : arg8.IsWhole) (arg9 : Memref sig .tc .vmem S768x1 .f32) (harg9 : arg9.IsWhole) (arg10 : Memref sig .tc .vmem S9x768x384 .f32) (harg10 : arg10.IsWhole) (arg11 : Memref sig .tc .vmem S768x1 .f32) (harg11 : arg11.IsWhole) (hc0 : k0_cond1 i = 1#1) (hc1 : ¬k0_cond2 i = 1#1)
    (x0 : Vec F S768x5120 .bf16) (x1 : Vec F S5120x384 .fp8e4m3) (x2 : Vec F S5120x384 .fp8e4m3) (x3 : Vec F S1x384 .f32) (x4 : Vec F S1x384 .f32)  (xs0 : Vec F S9x768x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare (XC x0) ∗ owns (c : Thread nD τ) arg9 fullShare (XS x0) ∗ owns (c : Thread nD τ) arg10 fullShare (VecWindow.put xs0 (k0_off1 i) S1x768x384.size (k0_pay23 x1 x2 (XC x0) (XS x0) x3 x4)) ∗ owns (c : Thread nD τ) arg11 fullShare (AMs x1 x2 (XC x0) (XS x0) x3 x4 (k0_pay21 (F := F)))) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [cc0_swiglu_gate_up_fp8_eq_skeleton]; unfold cc0_swiglu_gate_up_fp8_skel
  simp only [k0_part5_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H7]
  · iexists _; isplitr
    swap; · iexact H7
    ipureintro; exact (View.read_writes_full _ _ _ _ _).trans (XC_congr (ld_whole harg1 x0 _))
  isplitl [H8]
  · iexists _; isplitr
    swap; · iexact H8
    ipureintro; exact (View.read_writes_full _ _ _ _ _).trans (XS_congr (ld_whole harg1 x0 _))
  isplitl [HS0]
  · iexists _; isplitr
    swap; · iexact HS0
    ipureintro; exact put_whole harg10 xs0 _ (pay23_congr (ld_whole harg2 x1 _) (ld_whole harg3 x2 _) ((View.readAt_writes_full _ _ _ _ _ _).trans (XC_congr (ld_whole harg1 x0 _))) ((View.readAt_writes_full _ _ _ _ _ _).trans (XS_congr (ld_whole harg1 x0 _))) (ld_whole harg4 x3 _) (ld_whole harg5 x4 _))
  iexists _; isplitr
  swap; · iexact HS1
  ipureintro; exact (View.read_writes_full _ _ _ _ _).trans (AMs_congr (ld_whole harg2 x1 _) (ld_whole harg3 x2 _) ((View.readAt_writes_full _ _ _ _ _ _).trans (XC_congr (ld_whole harg1 x0 _))) ((View.readAt_writes_full _ _ _ _ _ _).trans (XS_congr (ld_whole harg1 x0 _))) (ld_whole harg4 x3 _) (ld_whole harg5 x4 _) (View.readAt_writes_full _ _ _ _ _ _))

set_option maxHeartbeats 1000000 in
/-- The body at a middle point: it writes this point's slice of the scratch and raises the running maxima. -/
theorem runB (c : Dev nD) (i : grid0.Coords) (arg1 : Memref sig .tc .vmem S768x5120 .bf16) (harg1 : arg1.IsWhole) (arg2 : Memref sig .tc .vmem S5120x384 .fp8e4m3) (harg2 : arg2.IsWhole) (arg3 : Memref sig .tc .vmem S5120x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S768x1 .f32) (harg6 : arg6.IsWhole) (arg7 : Memref sig .tc .vmem S768x3456 .fp8e4m3) (harg7 : arg7.IsWhole) (arg8 : Memref sig .tc .vmem S768x5120 .fp8e4m3) (harg8 : arg8.IsWhole) (arg9 : Memref sig .tc .vmem S768x1 .f32) (harg9 : arg9.IsWhole) (arg10 : Memref sig .tc .vmem S9x768x384 .f32) (harg10 : arg10.IsWhole) (arg11 : Memref sig .tc .vmem S768x1 .f32) (harg11 : arg11.IsWhole) (hc0 : ¬k0_cond1 i = 1#1) (hc1 : ¬k0_cond2 i = 1#1)
    (x0 : Vec F S768x5120 .bf16) (x1 : Vec F S5120x384 .fp8e4m3) (x2 : Vec F S5120x384 .fp8e4m3) (x3 : Vec F S1x384 .f32) (x4 : Vec F S1x384 .f32) (xc : Vec F S768x5120 .fp8e4m3) (xs : Vec F S768x1 .f32) (am : Vec F S768x1 .f32) (xs0 : Vec F S9x768x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare xc ∗ owns (c : Thread nD τ) arg9 fullShare xs ∗ owns (c : Thread nD τ) arg10 fullShare xs0 ∗ owns (c : Thread nD τ) arg11 fullShare am
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare xc ∗ owns (c : Thread nD τ) arg9 fullShare xs ∗ owns (c : Thread nD τ) arg10 fullShare (VecWindow.put xs0 (k0_off1 i) S1x768x384.size (k0_pay23 x1 x2 xc xs x3 x4)) ∗ owns (c : Thread nD τ) arg11 fullShare (AMs x1 x2 xc xs x3 x4 am)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [cc0_swiglu_gate_up_fp8_eq_skeleton]; unfold cc0_swiglu_gate_up_fp8_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg10.eq_unread hfs0; obtain rfl := harg11.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H7]
  · iexists _; isplitr
    swap; · iexact H7
    ipureintro; exact harg8.read_unread _
  isplitl [H8]
  · iexists _; isplitr
    swap; · iexact H8
    ipureintro; exact harg9.read_unread _
  isplitl [HS0]
  · iexists _; isplitr
    swap; · iexact HS0
    ipureintro; exact put_whole harg10 xs0 _ (pay23_congr (ld_whole harg2 x1 _) (ld_whole harg3 x2 _) (ld_whole harg8 xc _) (ld_whole harg9 xs _) (ld_whole harg4 x3 _) (ld_whole harg5 x4 _))
  iexists _; isplitr
  swap; · iexact HS1
  ipureintro; exact (View.read_writes_full _ _ _ _ _).trans (AMs_congr (ld_whole harg2 x1 _) (ld_whole harg3 x2 _) (ld_whole harg8 xc _) (ld_whole harg9 xs _) (ld_whole harg4 x3 _) (ld_whole harg5 x4 _) (ld_whole harg11 am _))

end Cert.KernelIdeal.Hand

end
-- ==== Proof.KernelIdeal.RunC.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KernelIdeal.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: it writes the last slice of the scratch and the maxima, then the scales and, tile by tile, the codes of the whole hidden block. -/
theorem runC (c : Dev nD) (i : grid0.Coords) (arg1 : Memref sig .tc .vmem S768x5120 .bf16) (harg1 : arg1.IsWhole) (arg2 : Memref sig .tc .vmem S5120x384 .fp8e4m3) (harg2 : arg2.IsWhole) (arg3 : Memref sig .tc .vmem S5120x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S768x1 .f32) (harg6 : arg6.IsWhole) (arg7 : Memref sig .tc .vmem S768x3456 .fp8e4m3) (harg7 : arg7.IsWhole) (arg8 : Memref sig .tc .vmem S768x5120 .fp8e4m3) (harg8 : arg8.IsWhole) (arg9 : Memref sig .tc .vmem S768x1 .f32) (harg9 : arg9.IsWhole) (arg10 : Memref sig .tc .vmem S9x768x384 .f32) (harg10 : arg10.IsWhole) (arg11 : Memref sig .tc .vmem S768x1 .f32) (harg11 : arg11.IsWhole) (hc0 : ¬k0_cond1 i = 1#1) (hc1 : k0_cond2 i = 1#1)
    (x0 : Vec F S768x5120 .bf16) (x1 : Vec F S5120x384 .fp8e4m3) (x2 : Vec F S5120x384 .fp8e4m3) (x3 : Vec F S1x384 .f32) (x4 : Vec F S1x384 .f32) (xc : Vec F S768x5120 .fp8e4m3) (xs : Vec F S768x1 .f32) (am : Vec F S768x1 .f32) (xs0 : Vec F S9x768x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xc ∗ owns (c : Thread nD τ) arg9 fullShare xs ∗ owns (c : Thread nD τ) arg10 fullShare xs0 ∗ owns (c : Thread nD τ) arg11 fullShare am
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (HS (AMs x1 x2 xc xs x3 x4 am)) ∗ owns (c : Thread nD τ) arg7 fullShare (HC (AMs x1 x2 xc xs x3 x4 am) (slice (VecWindow.put xs0 (k0_off1 i) S1x768x384.size (k0_pay23 x1 x2 xc xs x3 x4)))) ∗ owns (c : Thread nD τ) arg8 fullShare xc ∗ owns (c : Thread nD τ) arg9 fullShare xs ∗ owns (c : Thread nD τ) arg10 fullShare (VecWindow.put xs0 (k0_off1 i) S1x768x384.size (k0_pay23 x1 x2 xc xs x3 x4)) ∗ owns (c : Thread nD τ) arg11 fullShare (AMs x1 x2 xc xs x3 x4 am)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [cc0_swiglu_gate_up_fp8_eq_skeleton]; unfold cc0_swiglu_gate_up_fp8_skel
  simp only [k0_part5_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg10.eq_unread hfs0; obtain rfl := harg11.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; exact (View.read_writes_full _ _ _ _ _).trans (HS_congr ((View.readAt_writes_full _ _ _ _ _ _).trans (AMs_congr (ld_whole harg2 x1 _) (ld_whole harg3 x2 _) (ld_whole harg8 xc _) (ld_whole harg9 xs _) (ld_whole harg4 x3 _) (ld_whole harg5 x4 _) (ld_whole harg11 am _))))
  isplitl [H6]
  · iexists _; isplitr
    swap; · iexact H6
    ipureintro
    funext y
    have hy : (y 1).val < 3456 := (y 1).isLt
    have hm := AMs_congr (ld_whole harg2 x1 inb_S5120x384_S5120x384_0_0) (ld_whole harg3 x2 inb_S5120x384_S5120x384_0_0) (ld_whole harg8 xc inb_S768x5120_S768x5120_0_0) (ld_whole harg9 xs inb_S768x1_S768x1_0_0) (ld_whole harg4 x3 inb_S1x384_S1x384_0_0) (ld_whole harg5 x4 inb_S1x384_S1x384_0_0) (ld_whole harg11 am inb_S768x1_S768x1_0_0)
    have hd := fun inb => put_whole harg10 xs0 (off := k0_off1 i) inb (pay23_congr (ld_whole harg2 x1 inb_S5120x384_S5120x384_0_0) (ld_whole harg3 x2 inb_S5120x384_S5120x384_0_0) (ld_whole harg8 xc inb_S768x5120_S768x5120_0_0) (ld_whole harg9 xs inb_S768x1_S768x1_0_0) (ld_whole harg4 x3 inb_S1x384_S1x384_0_0) (ld_whole harg5 x4 inb_S1x384_S1x384_0_0))
    refine hc_step _ _ _ 8 (by decide) rfl _ _ ?_ _ y fun h8 => ?_
    · exact tile4 (inv_congr ((View.readAt_writes_full _ _ _ _ _ _).trans hm)) (ld_slice (hd _) 8 (by decide) _)
    refine hc_step _ _ _ 7 (by decide) rfl _ _ ?_ _ y fun h7 => ?_
    · exact tile3 (inv_congr ((View.readAt_writes_full _ _ _ _ _ _).trans hm)) (ld_slice (hd _) 7 (by decide) _)
    refine hc_step _ _ _ 6 (by decide) rfl _ _ ?_ _ y fun h6 => ?_
    · exact tile2 (inv_congr ((View.readAt_writes_full _ _ _ _ _ _).trans hm)) (ld_slice (hd _) 6 (by decide) _)
    refine hc_step _ _ _ 5 (by decide) rfl _ _ ?_ _ y fun h5 => ?_
    · exact tile18 (inv_congr ((View.readAt_writes_full _ _ _ _ _ _).trans hm)) (ld_slice (hd _) 5 (by decide) _)
    refine hc_step _ _ _ 4 (by decide) rfl _ _ ?_ _ y fun h4 => ?_
    · exact tile17 (inv_congr ((View.readAt_writes_full _ _ _ _ _ _).trans hm)) (ld_slice (hd _) 4 (by decide) _)
    refine hc_step _ _ _ 3 (by decide) rfl _ _ ?_ _ y fun h3 => ?_
    · exact tile16 (inv_congr ((View.readAt_writes_full _ _ _ _ _ _).trans hm)) (ld_slice (hd _) 3 (by decide) _)
    refine hc_step _ _ _ 2 (by decide) rfl _ _ ?_ _ y fun h2 => ?_
    · exact tile13 (exp_congr ((View.readAt_writes_full _ _ _ _ _ _).trans hm)) (ld_slice (hd _) 2 (by decide) _)
    refine hc_step _ _ _ 1 (by decide) rfl _ _ ?_ _ y fun h1 => ?_
    · exact tile12 (exp_congr ((View.readAt_writes_full _ _ _ _ _ _).trans hm)) (ld_slice (hd _) 1 (by decide) _)
    refine hc_step _ _ _ 0 (by decide) rfl _ _ ?_ _ y fun h0 => ?_
    · exact tile11 (exp_congr ((View.readAt_writes_full _ _ _ _ _ _).trans hm)) (ld_slice (hd _) 0 (by decide) _)
    omega
  isplitl [H7]
  · iexists _; isplitr
    swap; · iexact H7
    ipureintro; exact harg8.read_unread _
  isplitl [H8]
  · iexists _; isplitr
    swap; · iexact H8
    ipureintro; exact harg9.read_unread _
  isplitl [HS0]
  · iexists _; isplitr
    swap; · iexact HS0
    ipureintro; exact put_whole harg10 xs0 _ (pay23_congr (ld_whole harg2 x1 _) (ld_whole harg3 x2 _) (ld_whole harg8 xc _) (ld_whole harg9 xs _) (ld_whole harg4 x3 _) (ld_whole harg5 x4 _))
  iexists _; isplitr
  swap; · iexact HS1
  ipureintro; exact (View.read_writes_full _ _ _ _ _).trans (AMs_congr (ld_whole harg2 x1 _) (ld_whole harg3 x2 _) (ld_whole harg8 xc _) (ld_whole harg9 xs _) (ld_whole harg4 x3 _) (ld_whole harg5 x4 _) (ld_whole harg11 am _))

end Cert.KernelIdeal.Hand

end
-- ==== Proof.KernelIdeal.Frame.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.KernelIdeal.Vals
public import proofs.«01_k».proof.Proof.KernelIdeal.RunAB
public import proofs.«01_k».proof.Proof.KernelIdeal.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N9 (t : Fin cfg0.N) : t.val < 9 := lt_of_lt_of_eq t.isLt (show cfg0.N = 9 from N_0)
/-- Point `k` of the grid. -/
abbrev pt (k : ℕ) (hk : k < 9) : Fin cfg0.N := ⟨k, lt_of_lt_of_eq hk (show 9 = cfg0.N from N_0.symm)⟩

/-- The body's first branch runs at the first point only, its last branch at the last point only. -/
theorem hcond1 : ∀ t : Fin cfg0.N, k0_cond1 (grid0.coords t) = 1#1 ↔ t.val = 0 := by decide +kernel
theorem hcond2 : ∀ t : Fin cfg0.N, k0_cond2 (grid0.coords t) = 1#1 ↔ t.val = 8 := by decide +kernel
/-- Point `t` stores slice `t` of the scratch. -/
theorem hoff : ∀ t : Fin cfg0.N, k0_off1 (grid0.coords t) = ![t.val, 0, 0] := by decide +kernel
/-- The hidden block's results are stored at the last point only, the activations' at the first only. -/
theorem idle5 : ∀ t : Fin cfg0.N, cfg0.idle 5 (grid0.coords t) = !(t.val == 8) := by decide +kernel
theorem idle6 : ∀ t : Fin cfg0.N, cfg0.idle 6 (grid0.coords t) = !(t.val == 8) := by decide +kernel
theorem idle7 : ∀ t : Fin cfg0.N, cfg0.idle 7 (grid0.coords t) = !(t.val == 0) := by decide +kernel
theorem idle8 : ∀ t : Fin cfg0.N, cfg0.idle 8 (grid0.coords t) = !(t.val == 0) := by decide +kernel
/-- Every result's block is written back after the last point only. -/
theorem flush5 : ∀ t : Fin cfg0.N, (cfg0.win 5).flush t = (t.val == 8) := by decide +kernel
theorem flush6 : ∀ t : Fin cfg0.N, (cfg0.win 6).flush t = (t.val == 8) := by decide +kernel
theorem flush7 : ∀ t : Fin cfg0.N, (cfg0.win 7).flush t = (t.val == 8) := by decide +kernel
theorem flush8 : ∀ t : Fin cfg0.N, (cfg0.win 8).flush t = (t.val == 8) := by decide +kernel
theorem fetch7 : ∀ t : Fin cfg0.N, (cfg0.win 7).fetch t = false := by decide +kernel
theorem fetch8 : ∀ t : Fin cfg0.N, (cfg0.win 8).fetch t = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
abbrev ms0 (t : Fin cfg0.N) : Memref sig .tc .vmem S768x5120 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S5120x384 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S5120x384 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S768x3456 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S768x5120 .fp8e4m3 := win0_7.stage (cfg0.slots t 7)
abbrev hs7 (t : Fin cfg0.N) : (ms7 t).IsWhole := hstage0_7 ((cfg0.slots t 7).cast nbuf0_7)
abbrev ms8 (t : Fin cfg0.N) : Memref sig .tc .vmem S768x1 .f32 := win0_8.stage (cfg0.slots t 8)
abbrev hs8 (t : Fin cfg0.N) : (ms8 t).IsWhole := hstage0_8 ((cfg0.slots t 8).cast nbuf0_8)

/-- The scratch operands. -/
abbrev scM0 : Memref sig .tc .vmem S9x768x384 .f32 := Memref.whole cc0_scratch0
abbrev scM1 : Memref sig .tc .vmem S768x1 .f32 := Memref.whole cc0_scratch1

/-! ## What the run computes -/

/-- The codes and the scales of the activations. -/
def xcOf (c : Dev nD) : Vec F S768x5120 .fp8e4m3 := XC (iblk m c 0 (pt 0 (by decide)))
def xsOf (c : Dev nD) : Vec F S768x1 .f32 := XS (iblk m c 0 (pt 0 (by decide)))
/-- The hidden block's column tile `k`. -/
def htOf (c : Dev nD) (k : ℕ) (hk : k < 9) : Vec F S1x768x384 .f32 :=
  k0_pay23 (iblk m c 1 (pt k hk)) (iblk m c 2 (pt k hk)) (xcOf m c) (xsOf m c) (iblk m c 3 (pt k hk)) (iblk m c 4 (pt k hk))
/-- The running row maxima of the hidden block before point `n`. -/
def amOf (c : Dev nD) : ℕ → Vec F S768x1 .f32
  | 0 => k0_pay21 (F := F)
  | n + 1 => if h : n < 9 then AMs (iblk m c 1 (pt n h)) (iblk m c 2 (pt n h)) (xcOf m c) (xsOf m c) (iblk m c 3 (pt n h)) (iblk m c 4 (pt n h)) (amOf c n) else amOf c n
/-- The scales and the codes of the hidden block. -/
def hsOf (c : Dev nD) : Vec F S768x1 .f32 := HS (amOf m c 9)
def hcOf (c : Dev nD) : Vec F S768x3456 .fp8e4m3 := HC (amOf m c 9) (htOf m c)

theorem amOf_zero (c : Dev nD) : amOf m c 0 = k0_pay21 (F := F) := rfl
theorem amOf_succ (c : Dev nD) (n : ℕ) (h : n < 9) :
    amOf m c (n + 1) = AMs (iblk m c 1 (pt n h)) (iblk m c 2 (pt n h)) (xcOf m c) (xsOf m c) (iblk m c 3 (pt n h)) (iblk m c 4 (pt n h)) (amOf m c n) := by
  rw [amOf, dif_pos h]

/-- The invariant before point `n`: the scratch's first `n` slices hold the hidden block's first `n` column tiles, the
    other scratch (past the first point) the running maxima, the generator register anything. -/
def PhiS (c : Dev nD) (n : ℕ) (_ : n ≤ cfg0.N) : sProp 𝕄 :=
  iprop((∃ D : Vec F S9x768x384 .f32, ⌜∀ (k : ℕ) (hk : k < 9), k < n → slice D k hk = htOf m c k hk⌝ ∗ owns (c : Thread nD τ) scM0 fullShare D)
    ∗ (∃ a : Vec F S768x1 .f32, ⌜n ≠ 0 → a = amOf m c n⌝ ∗ owns (c : Thread nD τ) scM1 fullShare a) ∗ (∃ r, prngReg c r))

/-- The proof data of the pipeline: each input's buffer at its block; the results' at the final values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsOf m c
    | ⟨6, _⟩ => hcOf m c
    | ⟨7, _⟩ => xcOf m c
    | ⟨8, _⟩ => xsOf m c
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hsOf m c := by dsimp only [dats]
theorem after6 (c : Dev nD) (t : Fin cfg0.N) : (dats m 0 c).after 6 t = hcOf m c := by dsimp only [dats]
theorem after7 (c : Dev nD) (t : Fin cfg0.N) : (dats m 0 c).after 7 t = xcOf m c := by dsimp only [dats]
theorem after8 (c : Dev nD) (t : Fin cfg0.N) : (dats m 0 c).after 8 t = xsOf m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Past the first point the buffer of window 7 holds what the first point stored. -/
theorem before7 (c : Dev nD) : ∀ (n : ℕ) (t : Fin cfg0.N) (_ : t.val = n + 1) (d), (dats m 0 c).before 7 t d = xcOf m c := by
  intro n
  induction n with
  | zero =>
    intro t ht d
    rw [(dats m 0 c).before_of_pos 7 t (by omega) (fetch7 t)]
    have hf := flush7 ⟨t.val - 1, Nat.lt_of_le_of_lt (Nat.sub_le _ _) t.isLt⟩
    have hi := idle7 ⟨t.val - 1, Nat.lt_of_le_of_lt (Nat.sub_le _ _) t.isLt⟩
    rw [if_neg (by rw [hf]; simp only [beq_iff_eq]; omega)]
    unfold Dat.left
    rw [show cfg0.idle 7 (cfg0.grid.coords ⟨t.val - 1, Nat.lt_of_le_of_lt (Nat.sub_le _ _) t.isLt⟩) = false from hi.trans (by
      simp only [Bool.not_eq_false', beq_iff_eq]; omega)]
    exact after7 m c _
  | succ n ih =>
    intro t ht d
    have hN := N9 t
    rw [(dats m 0 c).before_of_pos 7 t (by omega) (fetch7 t)]
    have hf := flush7 ⟨t.val - 1, Nat.lt_of_le_of_lt (Nat.sub_le _ _) t.isLt⟩
    have hi := idle7 ⟨t.val - 1, Nat.lt_of_le_of_lt (Nat.sub_le _ _) t.isLt⟩
    rw [if_neg (by rw [hf]; simp only [beq_iff_eq]; omega)]
    unfold Dat.left
    rw [show cfg0.idle 7 (cfg0.grid.coords ⟨t.val - 1, Nat.lt_of_le_of_lt (Nat.sub_le _ _) t.isLt⟩) = true from hi.trans (by
      simp only [Bool.not_eq_true', beq_eq_false_iff_ne, ne_eq]; omega)]
    exact ih ⟨t.val - 1, Nat.lt_of_le_of_lt (Nat.sub_le _ _) t.isLt⟩ (by show t.val - 1 = n + 1; omega) d

/-- Past the first point the buffer of window 8 holds what the first point stored. -/
theorem before8 (c : Dev nD) : ∀ (n : ℕ) (t : Fin cfg0.N) (_ : t.val = n + 1) (d), (dats m 0 c).before 8 t d = xsOf m c := by
  intro n
  induction n with
  | zero =>
    intro t ht d
    rw [(dats m 0 c).before_of_pos 8 t (by omega) (fetch8 t)]
    have hf := flush8 ⟨t.val - 1, Nat.lt_of_le_of_lt (Nat.sub_le _ _) t.isLt⟩
    have hi := idle8 ⟨t.val - 1, Nat.lt_of_le_of_lt (Nat.sub_le _ _) t.isLt⟩
    rw [if_neg (by rw [hf]; simp only [beq_iff_eq]; omega)]
    unfold Dat.left
    rw [show cfg0.idle 8 (cfg0.grid.coords ⟨t.val - 1, Nat.lt_of_le_of_lt (Nat.sub_le _ _) t.isLt⟩) = false from hi.trans (by
      simp only [Bool.not_eq_false', beq_iff_eq]; omega)]
    exact after8 m c _
  | succ n ih =>
    intro t ht d
    have hN := N9 t
    rw [(dats m 0 c).before_of_pos 8 t (by omega) (fetch8 t)]
    have hf := flush8 ⟨t.val - 1, Nat.lt_of_le_of_lt (Nat.sub_le _ _) t.isLt⟩
    have hi := idle8 ⟨t.val - 1, Nat.lt_of_le_of_lt (Nat.sub_le _ _) t.isLt⟩
    rw [if_neg (by rw [hf]; simp only [beq_iff_eq]; omega)]
    unfold Dat.left
    rw [show cfg0.idle 8 (cfg0.grid.coords ⟨t.val - 1, Nat.lt_of_le_of_lt (Nat.sub_le _ _) t.isLt⟩) = true from hi.trans (by
      simp only [Bool.not_eq_true', beq_eq_false_iff_ne, ne_eq]; omega)]
    exact ih ⟨t.val - 1, Nat.lt_of_le_of_lt (Nat.sub_le _ _) t.isLt⟩ (by show t.val - 1 = n + 1; omega) d

theorem leave7 (c : Dev nD) (t : Fin cfg0.N) : (owns (c : Thread nD τ) (ms7 t) fullShare (xcOf m c) : sProp 𝕄) ⊢ (dats m 0 c).leavesExact 7 t := by
  have hi := idle7 t
  have hf := flush7 t
  by_cases h0 : t.val = 0
  · rw [h0] at hi
    unfold Dat.leavesExact
    rw [show cfg0.idle 7 (cfg0.grid.coords t) = false from hi.trans (by decide), after7]
  · by_cases h8 : t.val = 8
    · rw [h8] at hi hf
      unfold Dat.leavesExact
      rw [show cfg0.idle 7 (cfg0.grid.coords t) = true from hi.trans (by decide), show (cfg0.win 7).flush t = true from hf.trans (by decide), after7]
    · rw [Dat.leavesExact_idle (dats m 0 c) 7 t (hi.trans (by simp only [Bool.not_eq_true', beq_eq_false_iff_ne, ne_eq]; omega)) (hf.trans (by simp only [beq_eq_false_iff_ne, ne_eq]; omega))]
      iintro H
      iexists (xcOf m c)
      rw [before7 m c (t.val - 1) t (by omega)]
      iexact H

theorem leave8 (c : Dev nD) (t : Fin cfg0.N) : (owns (c : Thread nD τ) (ms8 t) fullShare (xsOf m c) : sProp 𝕄) ⊢ (dats m 0 c).leavesExact 8 t := by
  have hi := idle8 t
  have hf := flush8 t
  by_cases h0 : t.val = 0
  · rw [h0] at hi
    unfold Dat.leavesExact
    rw [show cfg0.idle 8 (cfg0.grid.coords t) = false from hi.trans (by decide), after8]
  · by_cases h8 : t.val = 8
    · rw [h8] at hi hf
      unfold Dat.leavesExact
      rw [show cfg0.idle 8 (cfg0.grid.coords t) = true from hi.trans (by decide), show (cfg0.win 8).flush t = true from hf.trans (by decide), after8]
    · rw [Dat.leavesExact_idle (dats m 0 c) 8 t (hi.trans (by simp only [Bool.not_eq_true', beq_eq_false_iff_ne, ne_eq]; omega)) (hf.trans (by simp only [beq_eq_false_iff_ne, ne_eq]; omega))]
      iintro H
      iexists (xsOf m c)
      rw [before8 m c (t.val - 1) t (by omega)]
      iexact H

theorem leave5_idle (c : Dev nD) (t : Fin cfg0.N) (h : t.val ≠ 8) :
    (dats m 0 c).leavesExact 5 t = iprop(∃ d, owns (c : Thread nD τ) (ms5 t) fullShare ((dats m 0 c).before 5 t d)) :=
  Dat.leavesExact_idle (dats m 0 c) 5 t ((idle5 t).trans (by simp only [Bool.not_eq_true', beq_eq_false_iff_ne, ne_eq]; omega)) ((flush5 t).trans (by simp only [beq_eq_false_iff_ne, ne_eq]; omega))
theorem leave5_last (c : Dev nD) (t : Fin cfg0.N) (h : t.val = 8) :
    (dats m 0 c).leavesExact 5 t = owns (c : Thread nD τ) (ms5 t) fullShare (hsOf m c) := by
  have hi := idle5 t
  rw [h] at hi
  unfold Dat.leavesExact
  rw [show cfg0.idle 5 (cfg0.grid.coords t) = false from hi.trans (by decide), after5]

theorem leave6_idle (c : Dev nD) (t : Fin cfg0.N) (h : t.val ≠ 8) :
    (dats m 0 c).leavesExact 6 t = iprop(∃ d, owns (c : Thread nD τ) (ms6 t) fullShare ((dats m 0 c).before 6 t d)) :=
  Dat.leavesExact_idle (dats m 0 c) 6 t ((idle6 t).trans (by simp only [Bool.not_eq_true', beq_eq_false_iff_ne, ne_eq]; omega)) ((flush6 t).trans (by simp only [beq_eq_false_iff_ne, ne_eq]; omega))
theorem leave6_last (c : Dev nD) (t : Fin cfg0.N) (h : t.val = 8) :
    (dats m 0 c).leavesExact 6 t = owns (c : Thread nD τ) (ms6 t) fullShare (hcOf m c) := by
  have hi := idle6 t
  rw [h] at hi
  unfold Dat.leavesExact
  rw [show cfg0.idle 6 (cfg0.grid.coords t) = false from hi.trans (by decide), after6]
theorem leave0 (c : Dev nD) (t : Fin cfg0.N) : (dats m 0 c).leavesExact 0 t = owns (c : Thread nD τ) (ms0 t) fullShare (iblk m c 0 t) := by
  unfold Dat.leavesExact; rw [live0 t, after0]
theorem leave1 (c : Dev nD) (t : Fin cfg0.N) : (dats m 0 c).leavesExact 1 t = owns (c : Thread nD τ) (ms1 t) fullShare (iblk m c 1 t) := by
  unfold Dat.leavesExact; rw [live1 t, after1]
theorem leave2 (c : Dev nD) (t : Fin cfg0.N) : (dats m 0 c).leavesExact 2 t = owns (c : Thread nD τ) (ms2 t) fullShare (iblk m c 2 t) := by
  unfold Dat.leavesExact; rw [live2 t, after2]
theorem leave3 (c : Dev nD) (t : Fin cfg0.N) : (dats m 0 c).leavesExact 3 t = owns (c : Thread nD τ) (ms3 t) fullShare (iblk m c 3 t) := by
  unfold Dat.leavesExact; rw [live3 t, after3]
theorem leave4 (c : Dev nD) (t : Fin cfg0.N) : (dats m 0 c).leavesExact 4 t = owns (c : Thread nD τ) (ms4 t) fullShare (iblk m c 4 t) := by
  unfold Dat.leavesExact; rw [live4 t, after4]

/-! ## The body at every point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Storing this point's slice keeps the invariant on the scratch. -/
theorem slices_step (c : Dev nD) (t : Fin cfg0.N) (D : Vec F S9x768x384 .f32) (w : Vec F S1x768x384 .f32)
    (hD : ∀ (k : ℕ) (hk : k < 9), k < t.val → slice D k hk = htOf m c k hk) (hw : w = htOf m c t.val (N9 t)) :
    ∀ (k : ℕ) (hk : k < 9), k < t.val + 1 → slice (VecWindow.put D (k0_off1 (grid0.coords t)) S1x768x384.size w) k hk = htOf m c k hk := by
  intro k hk hlt
  rw [hoff t]
  by_cases h : k = t.val
  · subst h; rw [slice_put_same]; exact hw
  · rw [slice_put_ne _ _ _ _ _ h]; exact hD k hk (by omega)

set_option maxHeartbeats 2000000 in
/-- The body at the first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_castSucc m c t]
  rw [leave0, leave1, leave2, leave3, leave4, leave5_idle m c t (by omega), leave6_idle m c t (by omega)]
  unfold PhiS
  have ht : t = pt 0 (by decide) := Fin.ext h0
  have hxc : XC (iblk m c 0 t) = xcOf m c := by rw [ht]; rfl
  have hxs : XS (iblk m c 0 t) = xsOf m c := by rw [ht]; rfl
  iintro ⟨⟨⟨%D, %hD, HS0⟩, ⟨%a, %ha, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcond1 t).mpr h0) (fun h => by have := (hcond2 t).mp h; omega) (iblk m c 0 t) (iblk m c 1 t) (iblk m c 2 t) (iblk m c 3 t) (iblk m c 4 t) D Set.univ _)
  isplitl [H0]; · iexact H0
  isplitl [H1]; · iexact H1
  isplitl [H2]; · iexact H2
  isplitl [H3]; · iexact H3
  isplitl [H4]; · iexact H4
  isplitl [H7]; · iexists _; iexact H7
  isplitl [H8]; · iexists _; iexact H8
  isplitl [HS0]; · iexact HS0
  isplitl [HS1]; · iexists _; iexact HS1
  rw [hxc, hxs]
  iintro ⟨H0, H1, H2, H3, H4, H7, H8, HS0, HS1⟩
  isplitl [HS0 HS1 Hg]
  · isplitl [HS0]
    · iexists _; isplitr
      swap; · iexact HS0
      ipureintro; exact slices_step m c t D _ hD (by subst ht; rfl)
    isplitl [HS1]
    · iexists _; isplitr
      swap; · iexact HS1
      ipureintro; intro _; exact (by subst ht; rfl)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iapply (leave7 m c t); iexact H7
  iapply (leave8 m c t); iexact H8

set_option maxHeartbeats 2000000 in
/-- The body at a middle point. -/
theorem sound_mid (c : Dev nD) (t : Fin cfg0.N) (h0 : t.val ≠ 0) (h8 : t.val ≠ 8) :
    bodyPre m c t ⊢ wp frame (wpE (defs₀ (F := F)) Variants.none c none) Set.univ (bodyAt0 t) (fun _ => bodyPost m c t) := by
  unfold bodyPre bodyPost bodyAt0
  simp only [before0, before1, before2, before3, before4, before7 m c (t.val - 1) t (by omega), before8 m c (t.val - 1) t (by omega)]
  rw [show (dats m 0 c).owesAt () t.succ = (dats m 0 c).owesAt () t.castSucc from rfl]
  rw [show (dats m 0 c).Φ t.succ = PhiS m c (t.val + 1) t.isLt from rfl, PhiS_castSucc m c t]
  rw [leave0, leave1, leave2, leave3, leave4, leave5_idle m c t h8, leave6_idle m c t h8]
  unfold PhiS
  iintro ⟨⟨⟨%D, %hD, HS0⟩, ⟨%a, %ha, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha h0
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcond1 t).mp h)) (fun h => h8 ((hcond2 t).mp h)) (iblk m c 0 t) (iblk m c 1 t) (iblk m c 2 t) (iblk m c 3 t) (iblk m c 4 t) (xcOf m c) (xsOf m c) (amOf m c t.val) D Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [HS0]; · iexact HS0
  isplitl [HS1]; · iexact HS1
  iintro ⟨H0, H1, H2, H3, H4, H7, H8, HS0, HS1⟩
  isplitl [HS0 HS1 Hg]
  · isplitl [HS0]
    · iexists _; isplitr
      swap; · iexact HS0
      ipureintro; exact slices_step m c t D _ hD rfl
    isplitl [HS1]
    · iexists _; isplitr
      swap; · iexact HS1
      ipureintro; intro _; exact (amOf_succ m c t.val (N9 t)).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iapply (leave7 m c t); iexact H7
  iapply (leave8 m c t); iexact H8

set_option maxHeartbeats 2000000 in
/-- The body at the last point. -/
theorem sound_last (c : Dev nD) (t : Fin cfg0.N) (h8 : t.val = 8) :
    bodyPre m c t ⊢ wp frame (wpE (defs₀ (F := F)) Variants.none c none) Set.univ (bodyAt0 t) (fun _ => bodyPost m c t) := by
  unfold bodyPre bodyPost bodyAt0
  simp only [before0, before1, before2, before3, before4, before7 m c (t.val - 1) t (by omega), before8 m c (t.val - 1) t (by omega)]
  rw [show (dats m 0 c).owesAt () t.succ = (dats m 0 c).owesAt () t.castSucc from rfl]
  rw [show (dats m 0 c).Φ t.succ = PhiS m c (t.val + 1) t.isLt from rfl, PhiS_castSucc m c t]
  rw [leave0, leave1, leave2, leave3, leave4, leave5_last m c t h8, leave6_last m c t h8]
  unfold PhiS
  iintro ⟨⟨⟨%D, %hD, HS0⟩, ⟨%a, %ha, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha (by omega)
  have hs := slices_step m c t D (k0_pay23 (iblk m c 1 t) (iblk m c 2 t) (xcOf m c) (xsOf m c) (iblk m c 3 t) (iblk m c 4 t)) hD rfl
  have ha9 : AMs (iblk m c 1 t) (iblk m c 2 t) (xcOf m c) (xsOf m c) (iblk m c 3 t) (iblk m c 4 t) (amOf m c t.val) = amOf m c 9 :=
    (amOf_succ m c t.val (N9 t)).symm.trans (by rw [h8])
  have hS : slice (VecWindow.put D (k0_off1 (grid0.coords t)) S1x768x384.size (k0_pay23 (iblk m c 1 t) (iblk m c 2 t) (xcOf m c) (xsOf m c) (iblk m c 3 t) (iblk m c 4 t))) = htOf m c :=
    funext fun k => funext fun hk => hs k hk (by omega)
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => by have := (hcond1 t).mp h; omega) ((hcond2 t).mpr h8) (iblk m c 0 t) (iblk m c 1 t) (iblk m c 2 t) (iblk m c 3 t) (iblk m c 4 t) (xcOf m c) (xsOf m c) (amOf m c t.val) D Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  isplitl [HS1]; · iexact HS1
  rw [ha9, hS]
  iintro ⟨H0, H1, H2, H3, H4, H5, H6, H7, H8, HS0, HS1⟩
  isplitl [HS0 HS1 Hg]
  · isplitl [HS0]
    · iexists _; isplitr
      swap; · iexact HS0
      ipureintro; exact slices_step m c t D _ hD rfl
    isplitl [HS1]
    · iexists _; isplitr
      swap; · iexact HS1
      ipureintro; intro _; exact (by rw [h8])
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leave7 m c t); iexact H7
  iapply (leave8 m c t); iexact H8

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h8 : t.val = 8
    · exact sound_last m c t h8
    · exact sound_mid m c t h0 h8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The kit's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%dS0, HS0⟩, ⟨%dS1, HS1⟩⟩, Hg⟩
  isplitl [HS0]
  · iexists dS0; isplitr
    · ipureintro; intro k hk h; omega
    iexact HS0
  isplitl [HS1]
  · iexists dS1; isplitr
    · ipureintro; intro h; omega
    iexact HS1
  iexact Hg

/-- and after the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%D, %hD, HS0⟩, ⟨%a, %ha, HS1⟩, Hg⟩
  isplitl [HS0 HS1]
  · isplitl [HS0]
    · iexists _; iexact HS0
    iexists _; iexact HS1
  iexact Hg

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Scale.lean ====
module

public import Idealize.ShloMosaic.Lib.Pointwise

@[expose] public section

set_option maxRecDepth 16384

noncomputable section

namespace Cert.Scale

open Idealize.ShloMosaic

/-! # The exponent of a power-of-two scale

The kernel reads the exponent field of a scaled row maximum `u` as the largest of 248 candidate words whose
threshold `u` reaches, and builds the scale and its inverse from the field by shifts. The reference takes
`⌊log u / log 2⌋ + 1` and raises two to it. Over the extended reals these are the same two numbers. -/

/-- The candidate word of lane `k`: the field `k`, and 255 in the last lane, shifted into place. -/
def word (k : Fin 248) : BitVec 32 :=
  IntOp.shli ArithUnit.vector
    (Scalar.select (IntOp.cmpi CmpIPredicate.slt (BitVec.ofNat 32 k.val) 247#32) (BitVec.ofNat 32 k.val) 255#32) 23#32

/-- The threshold of lane `k`: the smallest number with exponent field `k`. -/
def thr (k : Fin 248) : EReal := Ideal.ofBits FTy.f32 (IntOp.shli ArithUnit.vector (BitVec.ofNat 32 k.val) 23#32)

/-- The field extracted from the greatest of the candidates. -/
def fieldOf (f : Fin 248 → BitVec 32) : BitVec 32 :=
  IntOp.andi (IntOp.shrsi ArithUnit.vector (Finset.univ.fold IntOp.maxsi 2147483648#32 f) 23#32) 255#32

/-- The exponent word of a field `w`, zero where the field is 0 or 255 or the row maximum `a` is zero. -/
def expWord (w : BitVec 32) (a : EReal) : BitVec 32 :=
  Scalar.select (IntOp.ori (IntOp.ori (IntOp.cmpi CmpIPredicate.eq w 0#32) (IntOp.cmpi CmpIPredicate.eq w 255#32))
    (BitVec.ofBool (decide (a = 0)))) (0#32) (IntOp.subi w 126#32)

/-- The row maximum divided by 448, as both programs form it. -/
def scaled (a : EReal) : EReal := a * Ideal.ofBits FTy.f32 0x3B124925#32

/-- The kernel's exponent word of a row maximum `a`. -/
def kernelExp (a : EReal) : BitVec 32 :=
  expWord (fieldOf fun k => if thr k ≤ scaled a then word k else 0#32) a

/-- The kernel's scale of a row maximum. -/
def kernelScale (a : EReal) : EReal := Ideal.ofBits FTy.f32 (IntOp.shli ArithUnit.vector (IntOp.addi 127#32 (kernelExp a)) 23#32)

/-- The kernel's inverse scale of a row maximum. -/
def kernelInv (a : EReal) : EReal := Ideal.ofBits FTy.f32 (IntOp.shli ArithUnit.vector (IntOp.subi 127#32 (kernelExp a)) 23#32)

/-- The reference's exponent of a row maximum. -/
def refExp (a : EReal) : EReal :=
  if Ideal.ofBits FTy.f32 0x00800000#32 ≤ scaled a ∧ scaled a < Ideal.ofBits FTy.f32 0x7B800000#32 then
    Ideal.liftRound Int.floor (Ideal.div (Ideal.log (scaled a)) (Ideal.log (Ideal.ofBits FTy.f32 0x40000000#32))) + 1
  else 0

/-- A binary32 word of a normal exponent field `n`, a clear sign and a zero fraction denotes a power of two. -/
theorem ieee_pow (b : BitVec 32) (n : ℕ) (h1 : 1 ≤ n) (h2 : n ≤ 254) (hs : (b.extractLsb' (8 + 23) 1 == 1#1) = false)
    (he : (b.extractLsb' 23 8).toNat = n) (hf : (b.extractLsb' 0 23).toNat = 0) :
    Ideal.ieee 8 23 b = (((2 : ℝ) ^ ((n : ℤ) - 127) : ℝ) : EReal) := by
  have h255 : n ≠ 2 ^ 8 - 1 := by omega
  have h0 : n ≠ 0 := by omega
  unfold Ideal.ieee
  rw [hs, he, hf]
  simp only [if_neg h255, if_neg h0]
  have e : ((n : ℤ) - (2 ^ (8 - 1) - 1) - (23 : ℕ)) = ((n : ℤ) - 127) - 23 := by norm_num
  rw [e, zpow_sub₀ (by norm_num)]
  norm_num
  rw [← EReal.coe_mul, mul_div_cancel₀]
  norm_num

theorem shl_parts : ∀ m : Fin 255,
    ((IntOp.shli ArithUnit.vector (BitVec.ofNat 32 m.val) 23#32).extractLsb' (8 + 23) 1 == 1#1) = false
      ∧ ((IntOp.shli ArithUnit.vector (BitVec.ofNat 32 m.val) 23#32).extractLsb' 23 8).toNat = m.val
      ∧ ((IntOp.shli ArithUnit.vector (BitVec.ofNat 32 m.val) 23#32).extractLsb' 0 23).toNat = 0 := by
  decide +kernel

/-- What the shifted word of a field between 1 and 254 denotes: a power of two. -/
theorem ofBits_shl (n : ℕ) (h1 : 1 ≤ n) (h2 : n ≤ 254) :
    Ideal.ofBits FTy.f32 (IntOp.shli ArithUnit.vector (BitVec.ofNat 32 n) 23#32) = (((2 : ℝ) ^ ((n : ℤ) - 127) : ℝ) : EReal) := by
  have p := shl_parts ⟨n, by omega⟩
  exact ieee_pow _ n h1 h2 p.1 p.2.1 p.2.2

theorem thr_zero : thr 0 = 0 := by
  have h : IntOp.shli ArithUnit.vector (BitVec.ofNat 32 (0 : Fin 248).val) 23#32 = 0x00000000#32 := by decide +kernel
  unfold thr
  rw [h]
  exact Ideal.ofBits_zero_f32

theorem thr_pos (k : Fin 248) (h : 1 ≤ k.val) : thr k = (((2 : ℝ) ^ ((k.val : ℤ) - 127) : ℝ) : EReal) :=
  ofBits_shl k.val h (by omega)

theorem lo_eq : Ideal.ofBits FTy.f32 0x00800000#32 = (((2 : ℝ) ^ (-126 : ℤ) : ℝ) : EReal) :=
  ofBits_shl 1 (by omega) (by omega)

theorem hi_eq : Ideal.ofBits FTy.f32 0x7B800000#32 = (((2 : ℝ) ^ (120 : ℤ) : ℝ) : EReal) :=
  ofBits_shl 247 (by omega) (by omega)

theorem two_eq : Ideal.ofBits FTy.f32 0x40000000#32 = ((2 : ℝ) : EReal) := by
  refine (ofBits_shl 128 (by omega) (by omega)).trans ?_
  norm_num

/-- The field read off the candidates up to lane `j`: `j` itself, and 255 from the last lane. -/
theorem field_steps : ∀ j : Fin 248,
    fieldOf (fun k => if k ≤ j then word k else 0#32) = BitVec.ofNat 32 (if j.val = 247 then 255 else j.val) := by
  decide +kernel

theorem exp_low : ∀ a : EReal, expWord (BitVec.ofNat 32 0) a = 0#32 := by
  intro a
  rcases Classical.em (a = 0) with h | h <;> simp [expWord, h, IntOp.cmpi, IntOp.ori, Scalar.select]

theorem exp_high : ∀ a : EReal, expWord (BitVec.ofNat 32 255) a = 0#32 := by
  intro a
  rcases Classical.em (a = 0) with h | h <;> simp [expWord, h, IntOp.cmpi, IntOp.ori, Scalar.select]

/-- The two words a normal exponent field `j` leads to. -/
theorem exp_mid : ∀ j : Fin 247, 1 ≤ j.val →
    IntOp.addi 127#32 (Scalar.select (IntOp.ori (IntOp.ori (IntOp.cmpi CmpIPredicate.eq (BitVec.ofNat 32 j.val) 0#32)
        (IntOp.cmpi CmpIPredicate.eq (BitVec.ofNat 32 j.val) 255#32)) (BitVec.ofBool false)) (0#32)
        (IntOp.subi (BitVec.ofNat 32 j.val) 126#32)) = BitVec.ofNat 32 (j.val + 1)
      ∧ IntOp.subi 127#32 (Scalar.select (IntOp.ori (IntOp.ori (IntOp.cmpi CmpIPredicate.eq (BitVec.ofNat 32 j.val) 0#32)
        (IntOp.cmpi CmpIPredicate.eq (BitVec.ofNat 32 j.val) 255#32)) (BitVec.ofBool false)) (0#32)
        (IntOp.subi (BitVec.ofNat 32 j.val) 126#32)) = BitVec.ofNat 32 (253 - j.val) := by
  decide +kernel

/-- The scale and inverse scale where the exponent word is zero: one and one. -/
theorem unit_scale : Ideal.ofBits FTy.f32 (IntOp.shli ArithUnit.vector (IntOp.addi 127#32 0#32) 23#32) = 1
    ∧ Ideal.ofBits FTy.f32 (IntOp.shli ArithUnit.vector (IntOp.subi 127#32 0#32) 23#32) = 1 := by
  have h := ofBits_shl 127 (by omega) (by omega)
  have h' : (((2 : ℝ) ^ (((127 : ℕ) : ℤ) - 127) : ℝ) : EReal) = 1 := by norm_num
  exact ⟨h.trans h', h.trans h'⟩

theorem exp2_zero : Ideal.exp2 0 = 1 ∧ Ideal.exp2 (0 - 0) = 1 := by
  have : Ideal.exp2 ((0 : ℝ) : EReal) = 1 := by
    rw [Ideal.exp2_coe]; simp
  have h0 : ((0 : ℝ) : EReal) = 0 := rfl
  rw [h0] at this
  refine ⟨this, ?_⟩
  rw [sub_zero]; exact this

theorem exp2_int (n : ℤ) : Ideal.exp2 ((n : ℝ) : EReal) = (((2 : ℝ) ^ n : ℝ) : EReal) := by
  rw [Ideal.exp2_coe]
  congr 1
  exact Real.rpow_intCast 2 n

/-- The floor of the logarithm to base two names the binade. -/
theorem floor_log (r : ℝ) (n : ℤ) (h1 : (2 : ℝ) ^ n ≤ r) (h2 : r < (2 : ℝ) ^ (n + 1)) :
    Int.floor (Real.log r * (1 / Real.log 2)) = n := by
  have hl : 0 < Real.log 2 := Real.log_pos (by norm_num)
  have hp : (0 : ℝ) < (2 : ℝ) ^ n := by positivity
  have hr : 0 < r := lt_of_lt_of_le hp h1
  rw [Int.floor_eq_iff, mul_one_div, le_div_iff₀ hl, div_lt_iff₀ hl]
  constructor
  · rw [← Real.log_zpow]; exact Real.log_le_log hp h1
  · have := Real.log_lt_log hr h2
    rw [Real.log_zpow] at this
    push_cast at this
    exact this

/-- Below the normal numbers the kernel's exponent word is zero. -/
theorem kernelExp_low (a : EReal) (h : scaled a < (((2 : ℝ) ^ (-126 : ℤ) : ℝ) : EReal)) : kernelExp a = 0#32 := by
  have e : (fun k => if thr k ≤ scaled a then word k else 0#32) = (fun k : Fin 248 => if k ≤ 0 then word k else 0#32) := by
    funext k
    rcases Nat.eq_zero_or_pos k.val with hk | hk
    · have hk0 : k = 0 := Fin.ext hk
      subst hk0
      have hw : word 0 = 0#32 := by decide +kernel
      rw [hw, ite_self, ite_self]
    · rw [if_neg, if_neg]
      · intro hle
        have : k.val ≤ 0 := hle
        omega
      · rw [thr_pos k hk]
        refine not_le.mpr (lt_of_lt_of_le h ?_)
        exact EReal.coe_le_coe_iff.mpr (zpow_le_zpow_right₀ (by norm_num) (by omega))
  unfold kernelExp
  rw [e, field_steps 0]
  exact exp_low a

/-- From `2 ^ 120` on the kernel's exponent word is zero. -/
theorem kernelExp_high (a : EReal) (h : (((2 : ℝ) ^ (120 : ℤ) : ℝ) : EReal) ≤ scaled a) : kernelExp a = 0#32 := by
  have e : (fun k => if thr k ≤ scaled a then word k else 0#32) = (fun k : Fin 248 => if k ≤ ⟨247, by omega⟩ then word k else 0#32) := by
    funext k
    rw [if_pos, if_pos]
    · exact (show k.val ≤ 247 by omega)
    · refine le_trans ?_ h
      rcases Nat.eq_zero_or_pos k.val with hk | hk
      · have hk0 : k = 0 := Fin.ext hk
        subst hk0
        rw [thr_zero]
        exact EReal.coe_nonneg.mpr (by positivity)
      · rw [thr_pos k hk]
        exact EReal.coe_le_coe_iff.mpr (zpow_le_zpow_right₀ (by norm_num) (by omega))
  unfold kernelExp
  rw [e, field_steps ⟨247, by omega⟩]
  exact exp_high a

/-- In the binade of `2 ^ n` the field is `n + 127`. -/
theorem kernelField (a : EReal) (r : ℝ) (n : ℤ) (j : Fin 247) (hj : (j.val : ℤ) = n + 127) (ha : scaled a = (r : EReal))
    (h1 : (2 : ℝ) ^ n ≤ r) (h2 : r < (2 : ℝ) ^ (n + 1)) :
    fieldOf (fun k => if thr k ≤ scaled a then word k else 0#32) = BitVec.ofNat 32 j.val := by
  have e : (fun k => if thr k ≤ scaled a then word k else 0#32)
      = (fun k : Fin 248 => if k ≤ ⟨j.val, by omega⟩ then word k else 0#32) := by
    funext k
    rcases Nat.eq_zero_or_pos k.val with hk | hk
    · have hk0 : k = 0 := Fin.ext hk
      subst hk0
      have hw : word 0 = 0#32 := by decide +kernel
      rw [hw, ite_self, ite_self]
    · have hiff : thr k ≤ scaled a ↔ k ≤ (⟨j.val, by omega⟩ : Fin 248) := by
        rw [thr_pos k hk, ha, EReal.coe_le_coe_iff, Fin.le_def]
        constructor
        · intro hle
          have hlt : (2 : ℝ) ^ ((k.val : ℤ) - 127) < (2 : ℝ) ^ (n + 1) := lt_of_le_of_lt hle h2
          have := (zpow_lt_zpow_iff_right₀ (by norm_num : (1 : ℝ) < 2)).mp hlt
          show k.val ≤ j.val
          omega
        · intro hle
          have hle' : k.val ≤ j.val := hle
          exact le_trans (zpow_le_zpow_right₀ (by norm_num) (by omega)) h1
      by_cases hc : thr k ≤ scaled a
      · rw [if_pos hc, if_pos (hiff.mp hc)]
      · rw [if_neg hc, if_neg (fun h => hc (hiff.mpr h))]
  have hne : j.val ≠ 247 := by omega
  rw [e, field_steps ⟨j.val, by omega⟩, if_neg hne]

/-- The kernel's scale and inverse scale are two to the reference's exponent and to its negative. -/
theorem scale_eq (a : EReal) : kernelScale a = Ideal.exp2 (refExp a) ∧ kernelInv a = Ideal.exp2 (0 - refExp a) := by
  unfold kernelScale kernelInv refExp
  rw [lo_eq, hi_eq]
  by_cases h1 : (((2 : ℝ) ^ (-126 : ℤ) : ℝ) : EReal) ≤ scaled a
  · by_cases h2 : scaled a < (((2 : ℝ) ^ (120 : ℤ) : ℝ) : EReal)
    · rw [if_pos ⟨h1, h2⟩]
      obtain ⟨r, hr⟩ : ∃ r : ℝ, scaled a = (r : EReal) := by
        have hb : scaled a ≠ ⊥ := fun hb => by rw [hb] at h1; exact absurd h1 (not_le.mpr (EReal.bot_lt_coe _))
        have ht : scaled a ≠ ⊤ := fun ht => by rw [ht] at h2; exact absurd h2 (not_lt.mpr le_top)
        exact ⟨(scaled a).toReal, (EReal.coe_toReal ht hb).symm⟩
      rw [hr, EReal.coe_le_coe_iff] at h1
      rw [hr, EReal.coe_lt_coe_iff] at h2
      have hpos : 0 < r := lt_of_lt_of_le (by positivity) h1
      obtain ⟨n, hn1, hn2⟩ := exists_mem_Ico_zpow hpos (by norm_num : (1 : ℝ) < 2)
      have hlo : -126 < n + 1 := (zpow_lt_zpow_iff_right₀ (by norm_num : (1 : ℝ) < 2)).mp (lt_of_le_of_lt h1 hn2)
      have hhi : n < 120 := (zpow_lt_zpow_iff_right₀ (by norm_num : (1 : ℝ) < 2)).mp (lt_of_le_of_lt hn1 h2)
      obtain ⟨j, hj⟩ : ∃ j : Fin 247, (j.val : ℤ) = n + 127 := ⟨⟨(n + 127).toNat, by omega⟩, by simp; omega⟩
      have ha : a ≠ 0 := by
        intro h0
        have : scaled a = ((0 : ℝ) : EReal) := by rw [h0]; unfold scaled; rw [zero_mul]; rfl
        rw [this, EReal.coe_eq_coe_iff] at hr
        exact hpos.ne hr
      have hk : kernelExp a = Scalar.select (IntOp.ori (IntOp.ori (IntOp.cmpi CmpIPredicate.eq (BitVec.ofNat 32 j.val) 0#32)
          (IntOp.cmpi CmpIPredicate.eq (BitVec.ofNat 32 j.val) 255#32)) (BitVec.ofBool false)) (0#32)
          (IntOp.subi (BitVec.ofNat 32 j.val) 126#32) := by
        unfold kernelExp
        rw [kernelField a r n j hj hr hn1 hn2]
        unfold expWord
        rw [decide_eq_false ha]
      obtain ⟨e1, e2⟩ := exp_mid j (by omega)
      rw [hk, e1, e2, ofBits_shl (j.val + 1) (by omega) (by omega), ofBits_shl (253 - j.val) (by omega) (by omega)]
      have hl2 : Real.log 2 ≠ 0 := (Real.log_pos (by norm_num)).ne'
      have hexp : Ideal.liftRound Int.floor (Ideal.div (Ideal.log (scaled a)) (Ideal.log (Ideal.ofBits FTy.f32 0x40000000#32))) + 1
          = (((n + 1 : ℤ) : ℝ) : EReal) := by
        rw [hr, two_eq, Ideal.log_coe, Ideal.log_coe, if_neg (not_le.mpr hpos), if_neg (by norm_num), Ideal.div_coe hl2,
          ← EReal.coe_mul, Ideal.liftRound_coe, floor_log r n hn1 hn2]
        push_cast
        rfl
      rw [hexp]
      have hneg : (0 : EReal) - (((n + 1 : ℤ) : ℝ) : EReal) = (((-(n + 1) : ℤ) : ℝ) : EReal) := by
        rw [zero_sub, ← EReal.coe_neg]
        push_cast
        rfl
      rw [hneg, exp2_int, exp2_int]
      refine ⟨?_, ?_⟩
      · have : (((j.val + 1 : ℕ) : ℤ) - 127) = n + 1 := by omega
        rw [this]
      · have : (((253 - j.val : ℕ) : ℤ) - 127) = -(n + 1) := by omega
        rw [this]
    · rw [if_neg (fun h => h2 h.2), kernelExp_high a (not_lt.mp h2)]
      exact ⟨unit_scale.1.trans exp2_zero.1.symm, unit_scale.2.trans exp2_zero.2.symm⟩
  · rw [if_neg (fun h => h1 h.1), kernelExp_low a (not_le.mp h1)]
    exact ⟨unit_scale.1.trans exp2_zero.1.symm, unit_scale.2.trans exp2_zero.2.symm⟩

end Cert.Scale
-- ==== Proof.Spec.lean ====
module

public import Idealize.ShloMosaic.Lib.Pointwise
public import proofs.«01_k».proof.Proof.Scale

@[expose] public section

set_option maxRecDepth 16384

noncomputable section

namespace Cert.Spec

open Idealize.ShloMosaic Cert.Scale

/-! # The mathematics both programs compute

Over the activations `X` (768 rows of 5120), the weights `W` (5120 rows of 6912) and the column scales `S`:
each row of `X` is divided by its power-of-two scale and clipped to ±448, multiplied by `W`, scaled back by the
row's and the column's scale; the left half of the columns is the gate and the right half the factor it multiplies
(`gate · σ(gate) · up`); the product is again scaled row by row and clipped. -/

/-- The activations, row by row. -/
abbrev Acts : Type := (⟨2, ![768, 5120]⟩ : Shape).Idx → EReal
/-- The weights, gate columns first. -/
abbrev Weights : Type := (⟨2, ![5120, 6912]⟩ : Shape).Idx → EReal
/-- The column scales of the weights. -/
abbrev ColScales : Type := (⟨2, ![1, 6912]⟩ : Shape).Idx → EReal

/-- The greatest magnitude in a row. -/
def rowAbs {n : ℕ} (f : Fin n → EReal) : EReal := Finset.univ.sup fun k => max (f k) (-(f k))

/-- Clipping to the range of the narrow format, −448 to 448. -/
def clip (y : EReal) : EReal := min (Ideal.ofBits FTy.f32 0x43E00000#32) (max (Ideal.ofBits FTy.f32 0xC3E00000#32) y)

/-- The exponent of row `r` of the activations. -/
def xExp (X : Acts) (r : Fin 768) : EReal := refExp (rowAbs fun k => X (ix2 r k))

/-- The scale of row `r` of the activations. -/
def xs (X : Acts) (r : Fin 768) : EReal := Ideal.exp2 (xExp X r)

/-- The quantized activations. -/
def xc (X : Acts) (r : Fin 768) (k : Fin 5120) : EReal := clip (X (ix2 r k) * Ideal.exp2 (0 - xExp X r))

/-- Column `c` of the linear layer, scaled back. -/
def lin (X : Acts) (W : Weights) (S : ColScales) (r : Fin 768) (c : Fin 6912) : EReal :=
  (∑ k : Fin 5120, xc X r k * W (ix2 k c)) * xs X r * S (ix2 0 c)

/-- The gated hidden value at column `n`. -/
def act (X : Acts) (W : Weights) (S : ColScales) (r : Fin 768) (n : Fin 3456) : EReal :=
  lin X W S r ⟨n.val, by omega⟩ * Ideal.logistic (lin X W S r ⟨n.val, by omega⟩) * lin X W S r ⟨3456 + n.val, by omega⟩

/-- The exponent of row `r` of the hidden values. -/
def hExp (X : Acts) (W : Weights) (S : ColScales) (r : Fin 768) : EReal := refExp (rowAbs fun n => act X W S r n)

/-- The scale of row `r` of the hidden values. -/
def hs (X : Acts) (W : Weights) (S : ColScales) (r : Fin 768) : EReal := Ideal.exp2 (hExp X W S r)

/-- The quantized hidden values. -/
def hc (X : Acts) (W : Weights) (S : ColScales) (r : Fin 768) (n : Fin 3456) : EReal :=
  clip (act X W S r n * Ideal.exp2 (0 - hExp X W S r))

/-- A magnitude is at least zero. -/
theorem abs_nonneg (y : EReal) : 0 ≤ max y (-y) := by
  rcases le_total 0 y with h | h
  · exact le_max_of_le_left h
  · exact le_max_of_le_right (EReal.neg_nonneg.mpr h)

/-- A row's greatest magnitude is at least each of its magnitudes. -/
theorem le_rowAbs {n : ℕ} (f : Fin n → EReal) (k : Fin n) : max (f k) (-(f k)) ≤ rowAbs f :=
  Finset.le_sup (f := fun k => max (f k) (-(f k))) (Finset.mem_univ k)

/-- A row's greatest magnitude is at most any bound of its magnitudes. -/
theorem rowAbs_le {n : ℕ} (f : Fin n → EReal) (b : EReal) (h : ∀ k, max (f k) (-(f k)) ≤ b) : rowAbs f ≤ b :=
  Finset.sup_le fun k _ => h k

/-- The row maximum of a reduced vector, read at a row. -/
theorem rowMax {n : ℕ} (src : FVec Ideal ⟨2, ![768, n]⟩ .f32) (h : (⟨2, ![768, n]⟩ : Shape).Reduces [1] ⟨1, ![768]⟩)
    (hφ : FKind.Formats .f32) (hacc : (0xFF800000#32 : BitVec 32) = FKind.maximumf.neutral .f32 hφ)
    (hc : (⟨1, ![768]⟩ : Shape).ShapeCasts ⟨2, ![768, 1]⟩) (r : Fin 768) :
    shapeCast ⟨2, ![768, 1]⟩ (multiReduction .maximumf [1] ⟨1, ![768]⟩ src 0xFF800000#32 h hφ hacc) hc (ix2 r 0)
      = Finset.univ.sup (fun k : Fin n => (src (ix2 r k) : EReal)) := by
  have e : (FloatOps.ofBits (F := Ideal) .f32 0xFF800000#32 : EReal) = ⊥ := by
    simp [Ideal.ofBits, Ideal.ieee]
  have key : ∀ j : (⟨1, ![768]⟩ : Shape).Idx, multiReduction .maximumf [1] ⟨1, ![768]⟩ src 0xFF800000#32 h hφ hacc j
      = Finset.univ.sup (fun k : Fin n => (src (ix2 (j 0) k) : EReal)) := by
    intro j
    rw [multiReduction_maximumf_eq_fold, h.fold_fiber_r2_a1, e]
    rfl
  have hr : Shape.reshapeEquiv hc (ix2 r 0) = ix1 r := by pointwise
  show multiReduction .maximumf [1] ⟨1, ![768]⟩ src 0xFF800000#32 h hφ hacc (Shape.reshapeEquiv hc (ix2 r 0)) = _
  rw [key, hr]
  rfl

/-- The row maximum of magnitudes, read at a row. -/
theorem rowMax_abs {n : ℕ} (src : FVec Ideal ⟨2, ![768, n]⟩ .f32) (h : (⟨2, ![768, n]⟩ : Shape).Reduces [1] ⟨1, ![768]⟩)
    (hφ : FKind.Formats .f32) (hacc : (0xFF800000#32 : BitVec 32) = FKind.maximumf.neutral .f32 hφ)
    (hc : (⟨1, ![768]⟩ : Shape).ShapeCasts ⟨2, ![768, 1]⟩) (r : Fin 768) :
    shapeCast ⟨2, ![768, 1]⟩ (multiReduction .maximumf [1] ⟨1, ![768]⟩ (absf src) 0xFF800000#32 h hφ hacc) hc (ix2 r 0)
      = rowAbs (fun k : Fin n => (src (ix2 r k) : EReal)) :=
  rowMax (absf src) h hφ hacc hc r

/-- The greatest integer word of a row, read at a row. -/
theorem rowMaxI {n : ℕ} (src : IVec ⟨2, ![768, n]⟩ 32) (h : (⟨2, ![768, n]⟩ : Shape).Reduces [1] ⟨1, ![768]⟩)
    (hacc : (2147483648#32 : BitVec 32) = IKind.maxsi.neutral) (r : Fin 768) :
    multiReductionI .maxsi [1] ⟨1, ![768]⟩ src 2147483648#32 h hacc (ix1 r)
      = Finset.univ.fold IntOp.maxsi 2147483648#32 (fun k : Fin n => src (ix2 r k)) := by
  show reduceFold h IntOp.maxsi 2147483648#32 src (ix1 r) = _
  rw [reduceFold_eq_fold, h.fold_fiber_r2_a1]
  rfl

/-- A row scaled by its inverse scale and clipped, read at an element. -/
theorem quant_apply {n : ℕ} (y : FVec Ideal ⟨2, ![768, n]⟩ .f32) (inv : FVec Ideal ⟨2, ![768, 1]⟩ .f32)
    (hb : (⟨2, ![768, 1]⟩ : Shape).Broadcasts ⟨2, ![768, n]⟩) (ht : FTy.fp8e4m3.bits < FTy.f32.bits) (r : Fin 768) (k : Fin n) :
    truncf .fp8e4m3 (minimumf (broadcast ⟨2, ![768, n]⟩ (Scalar.ofBits (F := Ideal) .f32 0x43E00000#32))
      (maximumf (broadcast ⟨2, ![768, n]⟩ (Scalar.ofBits (F := Ideal) .f32 0xC3E00000#32))
        (mulf y (broadcastTo ⟨2, ![768, n]⟩ inv hb)))) ht (ix2 r k)
      = clip (y (ix2 r k) * inv (ix2 r 0)) := by
  have hb' : broadcastTo ⟨2, ![768, n]⟩ inv hb (ix2 r k) = inv (ix2 r 0) := by
    refine broadcastTo_apply _ _ _ _ fun a => ?_
    match a with
    | 0 => rfl
    | 1 => rfl
  show min _ (max _ (y (ix2 r k) * broadcastTo ⟨2, ![768, n]⟩ inv hb (ix2 r k))) = _
  rw [hb']
  rfl

end Cert.Spec
-- ==== Proof.KernelIdeal.Pay.lean ====
module

public import proofs.«01_k».proof.Proof.KernelIdeal.Vals
public import proofs.«01_k».proof.Proof.Spec

@[expose] public section

set_option maxRecDepth 16384

noncomputable section

namespace Cert.KernelIdeal.Hand

open Cert.KernelIdeal Cert.KernelIdeal.Gen Cert.Scale Cert.Spec
open Idealize.ShloMosaic Idealize.ShloMosaic.TcCoe

/-! # What the kernel's stored values are, element by element -/

/-- The row maximum of the activations' magnitudes, as a column. -/
def amx (x : Vec Ideal S768x5120 .bf16) : FVec Ideal S768x1 .f32 :=
  shapeCast S768x1 (multiReduction .maximumf [1] S768 (absf (k0_pay5 x)) 0xFF800000#32 reduces_S768x5120_S768 (.inl rfl) rfl)
    shapeCasts_S768_S768x1

/-- The candidate words of every row, one lane per exponent field. -/
def lanes (v43 : Vec Ideal S768x1 .f32) : IVec S768x248 32 :=
  have cst_22 : Ideal .f32 := Scalar.ofBits .f32 0x3B124925#32
  have v44 : FVec Ideal S768x1 .f32 := broadcast S768x1 cst_22
  have v45 : FVec Ideal S768x1 .f32 := mulf v43 v44
  have v46 : IVec S1x248 32 := iota .tc S1x248 32 [1] iota_S1x248_d1_w32
  have v47 : IVec S1x248 32 := broadcast S1x248 23#32
  have v48 : IVec S1x248 32 := shli v46 v47
  have v49 : FVec Ideal S1x248 .f32 := bitcastToFloat .f32 v48
  have v50 : IVec S1x248 32 := broadcast S1x248 247#32
  have v51 : IVec S1x248 1 := cmpi .slt v46 v50
  have v52 : IVec S1x248 32 := broadcast S1x248 255#32
  have v53 : IVec S1x248 32 := select v51 v46 v52
  have v54 : IVec S1x248 32 := broadcast S1x248 23#32
  have v55 : IVec S1x248 32 := shli v53 v54
  have v56 : FVec Ideal S768x248 .f32 := broadcastTo S768x248 v45 broadcasts_S768x1_S768x248
  have v57 : FVec Ideal S768x248 .f32 := broadcastTo S768x248 v49 broadcasts_S1x248_S768x248
  have v58 : IVec S768x248 1 := cmpf .oge v56 v57
  have v59 : IVec S1x248 32 := shapeCast S1x248 v55 shapeCasts_S1x248_S1x248
  have v60 : IVec S768x248 32 := broadcastTo S768x248 v59 broadcasts_S1x248_S768x248
  have v61 : IVec S768x248 32 := broadcast S768x248 0#32
  select v58 v60 v61

/-- The exponent words from the greatest candidate of every row. -/
def finish (v43 : Vec Ideal S768x1 .f32) (v63 : IVec S768 32) : IVec S768x1 32 :=
  have v64 : IVec S768x1 32 := shapeCast S768x1 v63 shapeCasts_S768_S768x1
  have v65 : IVec S768x1 32 := broadcast S768x1 23#32
  have v66 : IVec S768x1 32 := shrsi v64 v65
  have v67 : IVec S768x1 32 := broadcast S768x1 255#32
  have v68 : IVec S768x1 32 := andi v66 v67
  have v69 : IVec S768x1 32 := broadcast S768x1 0#32
  have v70 : IVec S768x1 1 := cmpi .eq v68 v69
  have v71 : IVec S768x1 32 := broadcast S768x1 255#32
  have v72 : IVec S768x1 1 := cmpi .eq v68 v71
  have v73 : IVec S768x1 1 := ori v70 v72
  have cst_30 : Ideal .f32 := Scalar.ofBits .f32 0x00000000#32
  have v74 : FVec Ideal S768x1 .f32 := broadcast S768x1 cst_30
  have v75 : IVec S768x1 1 := cmpf .oeq v43 v74
  have v76 : IVec S768x1 1 := ori v73 v75
  have v77 : IVec S768x1 32 := broadcast S768x1 126#32
  have v78 : IVec S768x1 32 := subi v68 v77
  have v79 : IVec S768x1 32 := broadcast S768x1 0#32
  select v76 v79 v78

theorem pay7_eq (v : Vec Ideal S768x1 .f32) :
    k0_pay7 (F := Ideal) v = finish v (multiReductionI .maxsi [1] S768 (lanes v) 2147483648#32 reduces_S768x248_S768 rfl) := rfl

theorem pay6_eq (x : Vec Ideal S768x5120 .bf16) : k0_pay6 (F := Ideal) x = k0_pay7 (F := Ideal) (amx x) := rfl

theorem lanes_apply (v : Vec Ideal S768x1 .f32) (r : Fin 768) (k : Fin 248) :
    lanes v (ix2 r k) = if thr k ≤ scaled (v (ix2 r 0)) then word k else 0#32 := by
  pointwise [lanes]
  rfl

theorem finish_apply (v : Vec Ideal S768x1 .f32) (w : IVec S768 32) (r : Fin 768) :
    finish v w (ix2 r 0) = expWord (IntOp.andi (IntOp.shrsi ArithUnit.vector (w (ix1 r)) 23#32) 255#32) (v (ix2 r 0)) := by
  pointwise [finish]
  rfl

/-- The exponent word of a row, of the row's maximum alone. -/
theorem pay7_apply (v : Vec Ideal S768x1 .f32) (r : Fin 768) :
    k0_pay7 (F := Ideal) v (ix2 r 0) = kernelExp (v (ix2 r 0)) := by
  rw [pay7_eq, finish_apply]
  have e : multiReductionI .maxsi [1] S768 (lanes v) 2147483648#32 reduces_S768x248_S768 rfl (ix1 r)
      = Finset.univ.fold IntOp.maxsi 2147483648#32 (fun k : Fin 248 => if thr k ≤ scaled (v (ix2 r 0)) then word k else 0#32) :=
    (rowMaxI (lanes v) reduces_S768x248_S768 rfl r).trans
      (congrArg (Finset.fold IntOp.maxsi 2147483648#32 · Finset.univ) (funext fun k => lanes_apply v r k))
  exact congrArg (fun z => expWord (IntOp.andi (IntOp.shrsi ArithUnit.vector z 23#32) 255#32) (v (ix2 r 0))) e

theorem pay5_apply (x : Vec Ideal S768x5120 .bf16) (r : Fin 768) (k : Fin 5120) : k0_pay5 (F := Ideal) x (ix2 r k) = x (ix2 r k) := by
  pointwise [k0_pay5]

theorem amx_apply (x : Vec Ideal S768x5120 .bf16) (r : Fin 768) : amx x (ix2 r 0) = rowAbs fun k => x (ix2 r k) :=
  (rowMax_abs (k0_pay5 (F := Ideal) x) reduces_S768x5120_S768 (.inl rfl) rfl shapeCasts_S768_S768x1 r).trans
    (congrArg rowAbs (funext fun k => pay5_apply x r k))

/-- The stored scale of a row of activations. -/
theorem XS_apply (x : Vec Ideal S768x5120 .bf16) (r : Fin 768) : XS (F := Ideal) x (ix2 r 0) = xs x r := by
  have h : k0_pay19 (F := Ideal) (k0_pay6 (F := Ideal) x) (ix2 r 0)
      = Ideal.ofBits .f32 (IntOp.shli ArithUnit.vector (IntOp.addi 127#32 (k0_pay6 (F := Ideal) x (ix2 r 0))) 23#32) := rfl
  unfold XS
  rw [h, pay6_eq, pay7_apply, amx_apply]
  exact (scale_eq _).1

/-- The stored quantized activations. -/
theorem XC_apply (x : Vec Ideal S768x5120 .bf16) (r : Fin 768) (k : Fin 5120) : XC (F := Ideal) x (ix2 r k) = xc x r k := by
  have h : k0_pay20 (F := Ideal) (k0_pay5 (F := Ideal) x) (k0_pay6 (F := Ideal) x) (ix2 r k)
      = clip (k0_pay5 (F := Ideal) x (ix2 r k)
          * Ideal.ofBits .f32 (IntOp.shli ArithUnit.vector (IntOp.subi 127#32 (k0_pay6 (F := Ideal) x (ix2 r 0))) 23#32)) :=
    quant_apply (k0_pay5 (F := Ideal) x) _ broadcasts_S768x1_S768x5120 bitsLt_fp8e4m3_f32 r k
  unfold XC
  rw [h, pay5_apply, pay6_eq, pay7_apply, amx_apply]
  have hi := (scale_eq (rowAbs fun k => x (ix2 r k))).2
  unfold kernelInv at hi
  rw [hi]
  rfl

/-- The stored scale of a row of hidden values, of the row's maximum. -/
theorem HS_apply (am : Vec Ideal S768x1 .f32) (r : Fin 768) : HS (F := Ideal) am (ix2 r 0) = Ideal.exp2 (refExp (am (ix2 r 0))) := by
  have h : k0_pay9 (F := Ideal) (k0_pay8 (F := Ideal) am) (ix2 r 0)
      = Ideal.ofBits .f32 (IntOp.shli ArithUnit.vector (IntOp.addi 127#32 (k0_pay7 (F := Ideal) am (ix2 r 0))) 23#32) := rfl
  unfold HS
  rw [h, pay7_apply]
  exact (scale_eq _).1

/-- One tile of quantized hidden values. -/
theorem pay2_apply (am : Vec Ideal S768x1 .f32) (T : Vec Ideal S1x768x384 .f32) (r : Fin 768) (n : Fin 384) :
    k0_pay2 (F := Ideal) (k0_pay10 (F := Ideal) (k0_pay7 (F := Ideal) am)) T (ix2 r n)
      = clip (T (ix3 0 r n) * Ideal.exp2 (0 - refExp (am (ix2 r 0)))) := by
  have hT : shapeCast S768x384 T shapeCasts_S1x768x384_S768x384 (ix2 r n) = T (ix3 0 r n) := by pointwise
  have h : k0_pay2 (F := Ideal) (k0_pay10 (F := Ideal) (k0_pay7 (F := Ideal) am)) T (ix2 r n)
      = clip (shapeCast S768x384 T shapeCasts_S1x768x384_S768x384 (ix2 r n)
          * Ideal.ofBits .f32 (IntOp.shli ArithUnit.vector (IntOp.subi 127#32 (k0_pay7 (F := Ideal) am (ix2 r 0))) 23#32)) :=
    quant_apply (shapeCast S768x384 T shapeCasts_S1x768x384_S768x384) _ broadcasts_S768x1_S768x384 bitsLt_fp8e4m3_f32 r n
  rw [h, hT, pay7_apply]
  have hi := (scale_eq (am (ix2 r 0))).2
  unfold kernelInv at hi
  rw [hi]

/-- One tile of hidden values: gate and up columns of the weights, scaled back, gated. -/
theorem pay22_apply (wg wu : Vec Ideal S5120x384 .fp8e4m3) (q : Vec Ideal S768x5120 .fp8e4m3) (z : Vec Ideal S768x1 .f32)
    (sg su : Vec Ideal S1x384 .f32) (r : Fin 768) (n : Fin 384) :
    k0_pay22 (F := Ideal) wg wu q z sg su (ix2 r n)
      = (∑ k : Fin 5120, q (ix2 r k) * wg (ix2 k n)) * z (ix2 r 0) * sg (ix2 0 n)
          * Ideal.logistic ((∑ k : Fin 5120, q (ix2 r k) * wg (ix2 k n)) * z (ix2 r 0) * sg (ix2 0 n))
          * ((∑ k : Fin 5120, q (ix2 r k) * wu (ix2 k n)) * z (ix2 r 0) * su (ix2 0 n)) := by
  pointwise [k0_pay22]

theorem pay23_apply (wg wu : Vec Ideal S5120x384 .fp8e4m3) (q : Vec Ideal S768x5120 .fp8e4m3) (z : Vec Ideal S768x1 .f32)
    (sg su : Vec Ideal S1x384 .f32) (r : Fin 768) (n : Fin 384) :
    k0_pay23 (F := Ideal) wg wu q z sg su (ix3 0 r n) = k0_pay22 (F := Ideal) wg wu q z sg su (ix2 r n) := by
  pointwise [k0_pay23]

/-- The running row maximum after one more tile. -/
theorem AMs_apply (wg wu : Vec Ideal S5120x384 .fp8e4m3) (q : Vec Ideal S768x5120 .fp8e4m3) (z : Vec Ideal S768x1 .f32)
    (sg su : Vec Ideal S1x384 .f32) (am : Vec Ideal S768x1 .f32) (r : Fin 768) :
    AMs (F := Ideal) wg wu q z sg su am (ix2 r 0)
      = max (am (ix2 r 0)) (rowAbs fun n => k0_pay22 (F := Ideal) wg wu q z sg su (ix2 r n)) := by
  have h1 : ∀ v : FVec Ideal S768x1 .f32, k0_pay1 (F := Ideal) v (ix2 r 0) = v (ix2 r 0) := by
    intro v
    pointwise [k0_pay1]
  unfold AMs
  rw [h1]
  exact congrArg (fun y : EReal => max (am (ix2 r 0)) y)
    (rowMax_abs (k0_pay22 (F := Ideal) wg wu q z sg su) reduces_S768x384_S768 (.inl rfl) rfl shapeCasts_S768_S768x1 r)

theorem pay21_apply (r : Fin 768) : k0_pay21 (F := Ideal) (ix2 r 0) = 0 := by
  pointwise [k0_pay21]

end Cert.KernelIdeal.Hand
-- ==== Proof.KernelIdeal.Value.lean ====
/- What the kernel's four arrays hold after the run, with floats read as extended reals. -/
module

public import proofs.«01_k».proof.Proof.KernelIdeal.Frame
public import proofs.«01_k».proof.Proof.KernelIdeal.Pay
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Cert.Spec Cert.Scale
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The operands and their blocks -/

/-- The activations, the weights and the column scales as the kernel finds them. -/
abbrev acts (c : Dev nD) : Acts := V m c main_v0
abbrev weights (c : Dev nD) : Weights := V m c main_arg1
abbrev scales (c : Dev nD) : ColScales := V m c main_v1

/-- Each operand is an argument, the activations and the scales re-laid; the scales are handed over twice. -/
theorem acts_eq (c : Dev nD) : acts m c = shapeCast S768x5120 (m ((c : Thread nD τ).loc main_arg0)) shapeCasts_S2x384x5120_S768x5120 := by
  unfold acts
  entry_read
  rfl
theorem weights_eq (c : Dev nD) : weights m c = m ((c : Thread nD τ).loc main_arg1) := V_main_arg1 m c
theorem scales_eq (c : Dev nD) : scales m c = shapeCast S1x6912 (m ((c : Thread nD τ).loc main_arg2)) shapeCasts_S6912_S1x6912 := by
  unfold scales
  entry_read
  rfl
theorem scales2_eq (c : Dev nD) :
    (V m c main_v2 : ColScales) = shapeCast S1x6912 (m ((c : Thread nD τ).loc main_arg2)) shapeCasts_S6912_S1x6912 := by
  entry_read
  rfl
theorem scales_twice (c : Dev nD) : (V m c main_v2 : ColScales) = scales m c := (scales2_eq m c).trans (scales_eq m c).symm

/-- The blocks of the operands at point `t`: the activations whole, the gate columns' tile `t`, the other half's tile `t`. -/
theorem idx : ∀ t : Fin cfg0.N, win0_0.index t = ![0, 0] ∧ win0_1.index t = ![0, t.val] ∧ win0_2.index t = ![0, t.val + 9]
    ∧ win0_3.index t = ![0, t.val] ∧ win0_4.index t = ![0, t.val + 9] :=
  (by decide +kernel : ∀ t : Fin grid0.N, _)
theorem idx0 (t : Fin cfg0.N) : win0_0.index t = ![0, 0] := (idx t).1
theorem idx1 (t : Fin cfg0.N) : win0_1.index t = ![0, t.val] := (idx t).2.1
theorem idx2 (t : Fin cfg0.N) : win0_2.index t = ![0, t.val + 9] := (idx t).2.2.1
theorem idx3 (t : Fin cfg0.N) : win0_3.index t = ![0, t.val] := (idx t).2.2.2.1
theorem idx4 (t : Fin cfg0.N) : win0_4.index t = ![0, t.val + 9] := (idx t).2.2.2.2

theorem read0 (c : Dev nD) (t : Fin cfg0.N) : (iblk m c 0 t : Acts) = acts m c := by
  funext y
  blk_ext [iblk, idx0]
theorem read1 (c : Dev nD) (k : ℕ) (hk : k < 9) (i : Fin 5120) (n : Fin 384) :
    iblk m c 1 (pt k hk) (ix2 i n) = weights m c (ix2 i ⟨384 * k + n.val, by omega⟩) := by
  blk_ext [iblk, idx1]
theorem read2 (c : Dev nD) (k : ℕ) (hk : k < 9) (i : Fin 5120) (n : Fin 384) :
    iblk m c 2 (pt k hk) (ix2 i n) = weights m c (ix2 i ⟨3456 + (384 * k + n.val), by omega⟩) := by
  blk_ext [iblk, idx2]
theorem read3 (c : Dev nD) (k : ℕ) (hk : k < 9) (n : Fin 384) :
    iblk m c 3 (pt k hk) (ix2 0 n) = scales m c (ix2 0 ⟨384 * k + n.val, by omega⟩) := by
  blk_ext [iblk, idx3]
theorem read4 (c : Dev nD) (k : ℕ) (hk : k < 9) (n : Fin 384) :
    iblk m c 4 (pt k hk) (ix2 0 n) = scales m c (ix2 0 ⟨3456 + (384 * k + n.val), by omega⟩) := by
  rw [← scales_twice]
  blk_ext [iblk, idx4]

/-! ## The values of the run -/

/-- The stored activations and their scales. -/
theorem xcOf_apply (c : Dev nD) (r : Fin 768) (k : Fin 5120) : xcOf m c (ix2 r k) = xc (acts m c) r k := by
  unfold xcOf
  rw [XC_apply, read0]
theorem xsOf_apply (c : Dev nD) (r : Fin 768) : xsOf m c (ix2 r 0) = xs (acts m c) r := by
  unfold xsOf
  rw [XS_apply, read0]

/-- Column tile `k` of the hidden block is columns `384 k …` of the gated hidden values. -/
theorem tile_apply (c : Dev nD) (k : ℕ) (hk : k < 9) (r : Fin 768) (n : Fin 384) :
    k0_pay22 (F := Ideal) (iblk m c 1 (pt k hk)) (iblk m c 2 (pt k hk)) (xcOf m c) (xsOf m c) (iblk m c 3 (pt k hk)) (iblk m c 4 (pt k hk)) (ix2 r n)
      = act (acts m c) (weights m c) (scales m c) r ⟨384 * k + n.val, by omega⟩ := by
  rw [pay22_apply, xsOf_apply, read3, read4]
  simp only [xcOf_apply, read1, read2]
  rfl
theorem htOf_apply (c : Dev nD) (k : ℕ) (hk : k < 9) (r : Fin 768) (n : Fin 384) :
    htOf m c k hk (ix3 0 r n) = act (acts m c) (weights m c) (scales m c) r ⟨384 * k + n.val, by omega⟩ := by
  unfold htOf
  rw [pay23_apply, tile_apply]

/-- The running maximum never passes the row's greatest magnitude. -/
theorem amOf_le (c : Dev nD) (r : Fin 768) : ∀ n, n ≤ 9 →
    amOf m c n (ix2 r 0) ≤ rowAbs fun p => act (acts m c) (weights m c) (scales m c) r p
  | 0, _ => by
    rw [amOf_zero, pay21_apply]
    exact (abs_nonneg _).trans (le_rowAbs (fun p => act (acts m c) (weights m c) (scales m c) r p) 0)
  | n + 1, h => by
    rw [amOf_succ m c n (by omega), AMs_apply]
    refine max_le (amOf_le c r n (by omega)) (rowAbs_le _ _ fun j => ?_)
    rw [tile_apply]
    exact le_rowAbs (fun p => act (acts m c) (weights m c) (scales m c) r p) _

/-- The running maximum is at least every magnitude of the tiles met so far. -/
theorem le_amOf (c : Dev nD) (r : Fin 768) : ∀ n, n ≤ 9 → ∀ k (hk : k < 9), k < n → ∀ j : Fin 384,
    max (act (acts m c) (weights m c) (scales m c) r ⟨384 * k + j.val, by omega⟩)
        (-act (acts m c) (weights m c) (scales m c) r ⟨384 * k + j.val, by omega⟩) ≤ amOf m c n (ix2 r 0)
  | 0, _, k, _, h, _ => absurd h (Nat.not_lt_zero k)
  | n + 1, hn, k, hk, h, j => by
    rw [amOf_succ m c n (by omega), AMs_apply]
    rcases Nat.lt_succ_iff_lt_or_eq.mp h with h | rfl
    · exact le_max_of_le_left (le_amOf c r n (by omega) k hk h j)
    · refine le_max_of_le_right ?_
      rw [← tile_apply m c k hk r j]
      exact le_rowAbs (fun j => k0_pay22 (F := Ideal) (iblk m c 1 (pt k hk)) (iblk m c 2 (pt k hk)) (xcOf m c) (xsOf m c)
        (iblk m c 3 (pt k hk)) (iblk m c 4 (pt k hk)) (ix2 r j)) j

/-- After the last tile it is the row's greatest magnitude. -/
theorem amOf_last (c : Dev nD) (r : Fin 768) :
    amOf m c 9 (ix2 r 0) = rowAbs fun p => act (acts m c) (weights m c) (scales m c) r p := by
  refine le_antisymm (amOf_le m c r 9 (le_refl 9)) (rowAbs_le _ _ fun p => ?_)
  have h := le_amOf m c r 9 (le_refl 9) (p.val / 384) (by omega) (by omega) ⟨p.val % 384, by omega⟩
  have e : (⟨384 * (p.val / 384) + p.val % 384, by omega⟩ : Fin 3456) = p := Fin.ext (Nat.div_add_mod p.val 384)
  dsimp only at h
  rwa [e] at h

/-- The stored hidden values and their scales. -/
theorem hsOf_apply (c : Dev nD) (r : Fin 768) : hsOf m c (ix2 r 0) = hs (acts m c) (weights m c) (scales m c) r := by
  unfold hsOf
  rw [HS_apply, amOf_last]
  rfl
theorem hcOf_apply (c : Dev nD) (r : Fin 768) (p : Fin 3456) :
    hcOf m c (ix2 r p) = hc (acts m c) (weights m c) (scales m c) r p := by
  have e : (⟨384 * (p.val / 384) + p.val % 384, by omega⟩ : Fin 3456) = p := Fin.ext (Nat.div_add_mod p.val 384)
  have hi : inTile (ix2 r p) = ix2 r ⟨p.val % 384, by omega⟩ := by
    funext a
    match a with
    | 0 => rfl
    | 1 => rfl
  have h : hcOf m c (ix2 r p) = k0_pay2 (F := Ideal) (k0_pay10 (F := Ideal) (k0_pay7 (F := Ideal) (amOf m c 9)))
      (htOf m c (p.val / 384) (by omega)) (inTile (ix2 r p)) := by
    unfold hcOf HC
    rfl
  rw [h, hi, pay2_apply, htOf_apply, amOf_last]
  dsimp only
  rw [e]
  rfl

/-! ## The four arrays after the run -/

/-- Every result's block is the whole array. -/
theorem idxOut : ∀ t : Fin cfg0.N, win0_5.index t = ![0, 0] ∧ win0_6.index t = ![0, 0] ∧ win0_7.index t = ![0, 0]
    ∧ win0_8.index t = ![0, 0] :=
  (by decide +kernel : ∀ t : Fin grid0.N, _)
theorem idx5 (t : Fin cfg0.N) : win0_5.index t = ![0, 0] := (idxOut t).1
theorem idx6 (t : Fin cfg0.N) : win0_6.index t = ![0, 0] := (idxOut t).2.1
theorem idx7 (t : Fin cfg0.N) : win0_7.index t = ![0, 0] := (idxOut t).2.2.1
theorem idx8 (t : Fin cfg0.N) : win0_8.index t = ![0, 0] := (idxOut t).2.2.2

/-- An index of a matrix is its row and its column; an index of a column is its row. -/
theorem row_col {n : ℕ} (y : (⟨2, ![768, n]⟩ : Shape).Idx) : y = ix2 (n0 := 768) (n1 := n) (y 0) (y 1) := by
  funext a
  match a with
  | 0 => rfl
  | 1 => rfl
theorem col_idx (y : S768x1.Idx) : y = ix2 (n0 := 768) (n1 := 1) (y 0) 0 :=
  (row_col y).trans (congrArg (fun k : Fin 1 => ix2 (n0 := 768) (n1 := 1) (y 0) k) (Subsingleton.elim (α := Fin 1) (y 1) 0))

/-- The scales of the hidden values. -/
theorem arr5 (c : Dev nD) : (dats m 0 c).arrAt 5 cfg0.N = fun y => hs (acts m c) (weights m c) (scales m c) (y 0) := by
  refine (dats m 0 c).arrAt_eq_of_covers 5 _ (by decide +kernel) fun t hf y => ?_
  blk_simp
  rw [after5]
  have e : ((cfg0.win 5).blk t).view.emb y = y := by blk_ext [idx5]
  exact ((congrArg (hsOf m c) (col_idx y)).trans (hsOf_apply m c (y 0))).trans
    (congrArg (fun z : S768x1.Idx => hs (acts m c) (weights m c) (scales m c) (z 0)) e.symm)
/-- The quantized hidden values. -/
theorem arr6 (c : Dev nD) : (dats m 0 c).arrAt 6 cfg0.N = fun y => hc (acts m c) (weights m c) (scales m c) (y 0) (y 1) := by
  refine (dats m 0 c).arrAt_eq_of_covers 6 _ (by decide +kernel) fun t hf y => ?_
  blk_simp
  rw [after6]
  have e : ((cfg0.win 6).blk t).view.emb y = y := by blk_ext [idx6]
  exact ((congrArg (hcOf m c) (row_col y)).trans (hcOf_apply m c (y 0) (y 1))).trans
    (congrArg (fun z : S768x3456.Idx => hc (acts m c) (weights m c) (scales m c) (z 0) (z 1)) e.symm)
/-- The quantized activations. -/
theorem arr7 (c : Dev nD) : (dats m 0 c).arrAt 7 cfg0.N = fun y => xc (acts m c) (y 0) (y 1) := by
  refine (dats m 0 c).arrAt_eq_of_covers 7 _ (by decide +kernel) fun t hf y => ?_
  blk_simp
  rw [after7]
  have e : ((cfg0.win 7).blk t).view.emb y = y := by blk_ext [idx7]
  exact ((congrArg (xcOf m c) (row_col y)).trans (xcOf_apply m c (y 0) (y 1))).trans
    (congrArg (fun z : S768x5120.Idx => xc (acts m c) (z 0) (z 1)) e.symm)
/-- The scales of the activations. -/
theorem arr8 (c : Dev nD) : (dats m 0 c).arrAt 8 cfg0.N = fun y => xs (acts m c) (y 0) := by
  refine (dats m 0 c).arrAt_eq_of_covers 8 _ (by decide +kernel) fun t hf y => ?_
  blk_simp
  rw [after8]
  have e : ((cfg0.win 8).blk t).view.emb y = y := by blk_ext [idx8]
  exact ((congrArg (xsOf m c) (col_idx y)).trans (xsOf_apply m c (y 0))).trans
    (congrArg (fun z : S768x1.Idx => xs (acts m c) (z 0)) e.symm)

/-- THE RUN, READ: every weakly fair execution ends with the four arrays at the problem's values of the operands and the
    arguments as they were. -/
theorem run : θ_run defs (onTc (τ := τ) (main (F := Ideal))) ⟨m, fun _ => 0, ρ⟩ fun r => ∀ c : Dev nD,
      r.2.mem ((c.tc : Thread nD τ).loc main_v3_0) = (fun y => hs (acts m c) (weights m c) (scales m c) (y 0))
      ∧ r.2.mem ((c.tc : Thread nD τ).loc main_v3_1) = (fun y => hc (acts m c) (weights m c) (scales m c) (y 0) (y 1))
      ∧ r.2.mem ((c.tc : Thread nD τ).loc main_v3_2) = (fun y => xc (acts m c) (y 0) (y 1))
      ∧ r.2.mem ((c.tc : Thread nD τ).loc main_v3_3) = (fun y => xs (acts m c) (y 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 5).trans (arr5 m c), ((h.1 c).1 6).trans (arr6 m c),
      ((h.1 c).1 7).trans (arr7 m c), ((h.1 c).1 8).trans (arr8 m c), h.2 c⟩)
    (θ_run_and (run_main m ρ) (unchanged m ρ))

end Cert.KernelIdeal.Hand

end
-- ==== Proof.ReferenceIdeal.Pay.lean ====
/- What the reference's stored values are, element by element, with floats read as extended reals. -/
module

public import proofs.«01_k».proof.Proof.Gen.ReferenceIdeal.Frame
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.Spec Cert.Scale
open Idealize.ShloMosaic Idealize.ShloMosaic.TcCoe Idealize.ShloMosaic.Tactic
open Idealize.SL Idealize.SL.Sem

/-! ## The computed values, element by element -/

/-- The exponents of a column of row maxima. -/
def expo (v5 : FVec Ideal S768x1 .f32) : FVec Ideal S768x1 .f32 :=
  have cst_1 : Ideal .f32 := Scalar.ofBits .f32 0x3B124925#32
  have v6 : FVec Ideal S768x1 .f32 := broadcast S768x1 cst_1
  have v7 : FVec Ideal S768x1 .f32 := mulf v5 v6
  have v8 : FVec Ideal S768x1 .f32 := log v7
  have cst_2 : Ideal .f32 := Scalar.ofBits .f32 0x40000000#32
  have v9 : FVec Ideal S768x1 .f32 := broadcast S768x1 cst_2
  have v10 : FVec Ideal S768x1 .f32 := log v9
  have v11 : FVec Ideal S768x1 .f32 := divf v8 v10
  have v12 : FVec Ideal S768x1 .f32 := floor v11
  have cst_3 : Ideal .f32 := Scalar.ofBits .f32 0x3F800000#32
  have v13 : FVec Ideal S768x1 .f32 := broadcast S768x1 cst_3
  have v14 : FVec Ideal S768x1 .f32 := addf v12 v13
  have cst_4 : Ideal .f32 := Scalar.ofBits .f32 0x00800000#32
  have v15 : FVec Ideal S768x1 .f32 := broadcast S768x1 cst_4
  have v16 : IVec S768x1 1 := cmpf .oge v7 v15
  have cst_5 : Ideal .f32 := Scalar.ofBits .f32 0x7B800000#32
  have v17 : FVec Ideal S768x1 .f32 := broadcast S768x1 cst_5
  have v18 : IVec S768x1 1 := cmpf .olt v7 v17
  have v19 : IVec S768x1 1 := andi v16 v18
  have cst_6 : Ideal .f32 := Scalar.ofBits .f32 0x00000000#32
  have v20 : FVec Ideal S768x1 .f32 := broadcast S768x1 cst_6
  have v21 : FVec Ideal S768x1 .f32 := select v19 v14 v20
  v21

/-- The greatest magnitude in every row of the activations, as a column. -/
def amx (x : Vec Ideal S768x5120 .bf16) : FVec Ideal S768x1 .f32 :=
  shapeCast S768x1 (multiReduction .maximumf [1] S768 (absf (k0_pay1 x)) 0xFF800000#32 reduces_S768x5120_S768 (.inl rfl) rfl)
    shapeCasts_S768_S768x1
/-- The greatest magnitude in every row of the hidden values, as a column. -/
def amh (g u : FVec Ideal S768x3456 .f32) : FVec Ideal S768x1 .f32 :=
  shapeCast S768x1 (multiReduction .maximumf [1] S768 (absf (k0_pay8 g u)) 0xFF800000#32 reduces_S768x3456_S768 (.inl rfl) rfl)
    shapeCasts_S768_S768x1

theorem pay2_eq (x : Vec Ideal S768x5120 .bf16) : k0_pay2 (F := Ideal) x = expo (amx x) := rfl
theorem pay9_eq (g u : FVec Ideal S768x3456 .f32) : k0_pay9 (F := Ideal) g u = expo (amh g u) := rfl

/-- A choice made by two comparisons. -/
theorem select_both (p q : Prop) [Decidable p] [Decidable q] [Decidable (p ∧ q)] (a b : EReal) :
    Scalar.select (IntOp.andi (BitVec.ofBool (decide p)) (BitVec.ofBool (decide q))) a b = if p ∧ q then a else b := by
  by_cases hp : p <;> by_cases hq : q <;> simp [hp, hq, IntOp.andi, Scalar.select]

/-- The exponent of a row, of the row's maximum alone. -/
theorem expo_apply (v : FVec Ideal S768x1 .f32) (r : Fin 768) : expo v (ix2 r 0) = refExp (v (ix2 r 0)) := by
  pointwise [expo]
  exact select_both (Ideal.ofBits FTy.f32 0x00800000#32 ≤ scaled (v (ix2 r 0))) (scaled (v (ix2 r 0)) < Ideal.ofBits FTy.f32 0x7B800000#32) _ _

theorem pay1_apply (x : Vec Ideal S768x5120 .bf16) (r : Fin 768) (k : Fin 5120) : k0_pay1 (F := Ideal) x (ix2 r k) = x (ix2 r k) := by
  pointwise [k0_pay1]

theorem amx_apply (x : Vec Ideal S768x5120 .bf16) (r : Fin 768) : amx x (ix2 r 0) = rowAbs fun k => x (ix2 r k) :=
  (rowMax_abs (k0_pay1 (F := Ideal) x) reduces_S768x5120_S768 (.inl rfl) rfl shapeCasts_S768_S768x1 r).trans
    (congrArg rowAbs (funext fun k => pay1_apply x r k))
theorem amh_apply (g u : FVec Ideal S768x3456 .f32) (r : Fin 768) :
    amh g u (ix2 r 0) = rowAbs fun n => k0_pay8 (F := Ideal) g u (ix2 r n) :=
  rowMax_abs (k0_pay8 (F := Ideal) g u) reduces_S768x3456_S768 (.inl rfl) rfl shapeCasts_S768_S768x1 r

/-- Two to an exponent, and to its negative, read at a row. -/
theorem exp2_apply (e : FVec Ideal S768x1 .f32) (r : Fin 768) : exp2 e (ix2 r 0) = Ideal.exp2 (e (ix2 r 0)) := rfl
theorem inv_apply (e : FVec Ideal S768x1 .f32) (r : Fin 768) :
    exp2 (subf (broadcast S768x1 (Scalar.ofBits (F := Ideal) .f32 0x00000000#32)) e) (ix2 r 0) = Ideal.exp2 (0 - e (ix2 r 0)) := by
  have h : exp2 (subf (broadcast S768x1 (Scalar.ofBits (F := Ideal) .f32 0x00000000#32)) e) (ix2 r 0)
      = Ideal.exp2 (Ideal.ofBits .f32 0x00000000#32 - e (ix2 r 0)) := rfl
  rw [h, Ideal.ofBits_zero_f32]

/-- The exponents of the activations and of the hidden values. -/
theorem pay2_apply (x : Vec Ideal S768x5120 .bf16) (r : Fin 768) : k0_pay2 (F := Ideal) x (ix2 r 0) = xExp x r := by
  rw [pay2_eq, expo_apply, amx_apply]
  rfl
theorem pay9_apply (g u : FVec Ideal S768x3456 .f32) (r : Fin 768) :
    k0_pay9 (F := Ideal) g u (ix2 r 0) = refExp (rowAbs fun n => k0_pay8 (F := Ideal) g u (ix2 r n)) := by
  rw [pay9_eq, expo_apply, amh_apply]

/-- The scales of the activations. -/
theorem pay3_apply (x : Vec Ideal S768x5120 .bf16) (r : Fin 768) : k0_pay3 (F := Ideal) x (ix2 r 0) = xs x r := by
  unfold k0_pay3
  exact (exp2_apply _ r).trans (congrArg Ideal.exp2 (pay2_apply x r))
/-- The quantized activations. -/
theorem pay4_apply (x : Vec Ideal S768x5120 .bf16) (r : Fin 768) (k : Fin 5120) : k0_pay4 (F := Ideal) x (ix2 r k) = xc x r k := by
  unfold k0_pay4
  refine (quant_apply _ _ broadcasts_S768x1_S768x5120 bitsLt_fp8e4m3_f32 r k).trans ?_
  rw [inv_apply, pay1_apply, pay2_apply]
  unfold xc
  exact Eq.refl _

/-- The gated hidden values. -/
theorem pay8_apply (x : Vec Ideal S768x5120 .bf16) (w : Vec Ideal S5120x6912 .fp8e4m3) (s : Vec Ideal S1x6912 .f32) (r : Fin 768) (n : Fin 3456) :
    k0_pay8 (F := Ideal) (k0_pay6 x w s) (k0_pay7 x w s) (ix2 r n) = act x w s r n := by
  pointwise [k0_pay8, k0_pay7, k0_pay6, k0_pay5]
  simp only [pay4_apply, pay3_apply]
  rfl

/-- The exponent of a row of hidden values. -/
theorem pay9_act (x : Vec Ideal S768x5120 .bf16) (w : Vec Ideal S5120x6912 .fp8e4m3) (s : Vec Ideal S1x6912 .f32) (r : Fin 768) :
    k0_pay9 (F := Ideal) (k0_pay6 x w s) (k0_pay7 x w s) (ix2 r 0) = hExp x w s r :=
  (pay9_apply _ _ r).trans (congrArg (fun f : Fin 3456 → EReal => refExp (rowAbs f)) (funext fun n => pay8_apply x w s r n))

/-- The scales of the hidden values. -/
theorem pay10_apply (x : Vec Ideal S768x5120 .bf16) (w : Vec Ideal S5120x6912 .fp8e4m3) (s : Vec Ideal S1x6912 .f32) (r : Fin 768) :
    k0_pay10 (F := Ideal) (k0_pay6 x w s) (k0_pay7 x w s) (ix2 r 0) = hs x w s r := by
  unfold k0_pay10
  exact (exp2_apply _ r).trans (congrArg Ideal.exp2 (pay9_act x w s r))
/-- The quantized hidden values. -/
theorem pay11_apply (x : Vec Ideal S768x5120 .bf16) (w : Vec Ideal S5120x6912 .fp8e4m3) (s : Vec Ideal S1x6912 .f32) (r : Fin 768) (n : Fin 3456) :
    k0_pay11 (F := Ideal) (k0_pay6 x w s) (k0_pay7 x w s) (ix2 r n) = hc x w s r n := by
  unfold k0_pay11
  refine (quant_apply _ _ broadcasts_S768x1_S768x3456 bitsLt_fp8e4m3_f32 r n).trans ?_
  rw [inv_apply, pay8_apply, pay9_act]
  unfold hc
  exact Eq.refl _

end Cert.ReferenceIdeal.Hand

end
-- ==== Proof.ReferenceIdeal.Value.lean ====
/- What the reference's four arrays hold after the run, with floats read as extended reals. -/
module

public import proofs.«01_k».proof.Proof.Gen.ReferenceIdeal.Frame
public import proofs.«01_k».proof.Proof.ReferenceIdeal.Pay
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Cert.Spec Cert.Scale
open Idealize.ShloMosaic Idealize.ShloMosaic.TcCoe Idealize.ShloMosaic.Tactic
open Idealize.SL Idealize.SL.Sem
open Idealize.ShloMosaic.Pipeline (Dat Cfg Window)

/-! ## The four arrays after the run -/

variable (m : (ℓ : Loc nD τ sig) → Buf (Elt Ideal) ℓ) (ρ : Dev nD → PrngReg)

/-- The activations, the weights and the column scales as the reference finds them. -/
abbrev acts (c : Dev nD) : Acts := V m c main_v0
abbrev weights (c : Dev nD) : Weights := V m c main_arg1
abbrev scales (c : Dev nD) : ColScales := V m c main_v1

/-- Each operand is an argument, the activations and the scales re-laid. -/
theorem acts_eq (c : Dev nD) : acts m c = shapeCast S768x5120 (m ((c : Thread nD τ).loc main_arg0)) shapeCasts_S2x384x5120_S768x5120 := by
  unfold acts
  entry_read
  rfl
theorem weights_eq (c : Dev nD) : weights m c = m ((c : Thread nD τ).loc main_arg1) := V_main_arg1 m c
theorem scales_eq (c : Dev nD) : scales m c = shapeCast S1x6912 (m ((c : Thread nD τ).loc main_arg2)) shapeCasts_S6912_S1x6912 := by
  unfold scales
  entry_read
  rfl

/-- Every block is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)
theorem idx0 (t : Fin cfg0.N) : win0_0.index t = ![0, 0] := (idx t).1
theorem idx1 (t : Fin cfg0.N) : win0_1.index t = ![0, 0] := (idx t).2.1
theorem idx2 (t : Fin cfg0.N) : win0_2.index t = ![0, 0] := (idx t).2.2.1
theorem idx3 (t : Fin cfg0.N) : win0_3.index t = ![0, 0] := (idx t).2.2.2.1
theorem idx4 (t : Fin cfg0.N) : win0_4.index t = ![0, 0] := (idx t).2.2.2.2.1
theorem idx5 (t : Fin cfg0.N) : win0_5.index t = ![0, 0] := (idx t).2.2.2.2.2.1
theorem idx6 (t : Fin cfg0.N) : win0_6.index t = ![0, 0] := (idx t).2.2.2.2.2.2

theorem read0 (c : Dev nD) (t : Fin cfg0.N) : (iblk m c 0 t : Acts) = acts m c := by
  funext y
  blk_ext [iblk, idx0]
theorem read1 (c : Dev nD) (t : Fin cfg0.N) : (iblk m c 1 t : Weights) = weights m c := by
  funext y
  blk_ext [iblk, idx1]
theorem read2 (c : Dev nD) (t : Fin cfg0.N) : (iblk m c 2 t : ColScales) = scales m c := by
  funext y
  blk_ext [iblk, idx2]

/-- The body loads and stores whole blocks. -/
theorem zeros : (![0, 0] : Fin 2 → ℕ) = fun _ => 0 := funext fun a => by fin_cases a <;> rfl
theorem out3_eq (x : Vec Ideal S768x5120 .bf16) (w : Vec Ideal S5120x6912 .fp8e4m3) (s : Vec Ideal S1x6912 .f32) :
    out0_3 x w s = k0_pay10 (k0_pay6 x w s) (k0_pay7 x w s) := by
  unfold out0_3 k0_pay12 k0_pay13
  rw [View.canon_unit_zero zeros, View.ld_unit_zero zeros, View.ld_unit_zero zeros, View.ld_unit_zero zeros]
theorem out4_eq (x : Vec Ideal S768x5120 .bf16) (w : Vec Ideal S5120x6912 .fp8e4m3) (s : Vec Ideal S1x6912 .f32) :
    out0_4 x w s = k0_pay11 (k0_pay6 x w s) (k0_pay7 x w s) := by
  unfold out0_4 k0_pay12 k0_pay13
  rw [View.canon_unit_zero zeros, View.ld_unit_zero zeros, View.ld_unit_zero zeros, View.ld_unit_zero zeros]
theorem out5_eq (x : Vec Ideal S768x5120 .bf16) (w : Vec Ideal S5120x6912 .fp8e4m3) (s : Vec Ideal S1x6912 .f32) :
    out0_5 x w s = k0_pay4 x := by
  unfold out0_5
  rw [View.canon_unit_zero zeros, View.ld_unit_zero zeros]
theorem out6_eq (x : Vec Ideal S768x5120 .bf16) (w : Vec Ideal S5120x6912 .fp8e4m3) (s : Vec Ideal S1x6912 .f32) :
    out0_6 x w s = k0_pay3 x := by
  unfold out0_6
  rw [View.canon_unit_zero zeros, View.ld_unit_zero zeros]

/-- An index of a matrix is its row and its column; an index of a column is its row. -/
theorem row_col {n : ℕ} (y : (⟨2, ![768, n]⟩ : Shape).Idx) : y = ix2 (n0 := 768) (n1 := n) (y 0) (y 1) := by
  funext a
  match a with
  | 0 => rfl
  | 1 => rfl
theorem col_idx (y : S768x1.Idx) : y = ix2 (n0 := 768) (n1 := 1) (y 0) 0 :=
  (row_col y).trans (congrArg (fun k : Fin 1 => ix2 (n0 := 768) (n1 := 1) (y 0) k) (Subsingleton.elim (α := Fin 1) (y 1) 0))

/-- The scales of the hidden values. -/
theorem arr3 (c : Dev nD) : (dats m 0 c).arrAt 3 cfg0.N = fun y => hs (acts m c) (weights m c) (scales m c) (y 0) := by
  refine (dats m 0 c).arrAt_eq_of_covers 3 _ (by decide +kernel) fun t hf y => ?_
  blk_simp
  rw [after0_3, out3_eq, read0, read1, read2]
  have e : ((cfg0.win 3).blk t).view.emb y = y := by blk_ext [idx3]
  exact ((congrArg (k0_pay10 (F := Ideal) (k0_pay6 (acts m c) (weights m c) (scales m c)) (k0_pay7 (acts m c) (weights m c) (scales m c))) (col_idx y)).trans (pay10_apply (acts m c) (weights m c) (scales m c) (y 0))).trans
    (congrArg (fun z : S768x1.Idx => hs (acts m c) (weights m c) (scales m c) (z 0)) e.symm)
/-- The quantized hidden values. -/
theorem arr4 (c : Dev nD) : (dats m 0 c).arrAt 4 cfg0.N = fun y => hc (acts m c) (weights m c) (scales m c) (y 0) (y 1) := by
  refine (dats m 0 c).arrAt_eq_of_covers 4 _ (by decide +kernel) fun t hf y => ?_
  blk_simp
  rw [after0_4, out4_eq, read0, read1, read2]
  have e : ((cfg0.win 4).blk t).view.emb y = y := by blk_ext [idx4]
  exact ((congrArg (k0_pay11 (F := Ideal) (k0_pay6 (acts m c) (weights m c) (scales m c)) (k0_pay7 (acts m c) (weights m c) (scales m c))) (row_col y)).trans (pay11_apply (acts m c) (weights m c) (scales m c) (y 0) (y 1))).trans
    (congrArg (fun z : S768x3456.Idx => hc (acts m c) (weights m c) (scales m c) (z 0) (z 1)) e.symm)
/-- The quantized activations. -/
theorem arr5 (c : Dev nD) : (dats m 0 c).arrAt 5 cfg0.N = fun y => xc (acts m c) (y 0) (y 1) := by
  refine (dats m 0 c).arrAt_eq_of_covers 5 _ (by decide +kernel) fun t hf y => ?_
  blk_simp
  rw [after0_5, out5_eq, read0]
  have e : ((cfg0.win 5).blk t).view.emb y = y := by blk_ext [idx5]
  exact ((congrArg (k0_pay4 (F := Ideal) (acts m c)) (row_col y)).trans (pay4_apply (acts m c) (y 0) (y 1))).trans
    (congrArg (fun z : S768x5120.Idx => xc (acts m c) (z 0) (z 1)) e.symm)
/-- The scales of the activations. -/
theorem arr6 (c : Dev nD) : (dats m 0 c).arrAt 6 cfg0.N = fun y => xs (acts m c) (y 0) := by
  refine (dats m 0 c).arrAt_eq_of_covers 6 _ (by decide +kernel) fun t hf y => ?_
  blk_simp
  rw [after0_6, out6_eq, read0]
  have e : ((cfg0.win 6).blk t).view.emb y = y := by blk_ext [idx6]
  exact ((congrArg (k0_pay3 (F := Ideal) (acts m c)) (col_idx y)).trans (pay3_apply (acts m c) (y 0))).trans
    (congrArg (fun z : S768x1.Idx => xs (acts m c) (z 0)) e.symm)

/-- THE RUN, READ: every weakly fair execution ends with the four arrays at the problem's values of the operands and the
    arguments as they were. -/
theorem run : θ_run defs (onTc (τ := τ) (main (F := Ideal))) ⟨m, fun _ => 0, ρ⟩ fun r => ∀ c : Dev nD,
      r.2.mem ((c.tc : Thread nD τ).loc main_v2_0) = (fun y => hs (acts m c) (weights m c) (scales m c) (y 0))
      ∧ r.2.mem ((c.tc : Thread nD τ).loc main_v2_1) = (fun y => hc (acts m c) (weights m c) (scales m c) (y 0) (y 1))
      ∧ r.2.mem ((c.tc : Thread nD τ).loc main_v2_2) = (fun y => xc (acts m c) (y 0) (y 1))
      ∧ r.2.mem ((c.tc : Thread nD τ).loc main_v2_3) = (fun y => xs (acts m c) (y 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (arr3 m c), ((h.1 c).1 4).trans (arr4 m c),
      ((h.1 c).1 5).trans (arr5 m c), ((h.1 c).1 6).trans (arr6 m c), h.2 c⟩)
    (θ_run_and (run_main m ρ) (unchanged m ρ))

end Cert.ReferenceIdeal.Hand

end
-- ==== Proof.Equation.lean ====
/- The kernel and the reference end with the same four arrays, with floats read as extended reals. -/
module

public import proofs.«01_k».proof.Defs
public import proofs.«01_k».proof.Proof.KernelIdeal.Value
public import proofs.«01_k».proof.Proof.ReferenceIdeal.Value

@[expose] public section

noncomputable section

namespace Cert.Proof

open Idealize.ShloMosaic Idealize.SL.Sem Cert.Spec

/-- From memories that agree on the arguments, both programs run and end with the problem's four arrays: the scales of
    the hidden values, the quantized hidden values, the quantized activations and their scales. -/
theorem algebraic : Cert.algebraic_KernelIdeal_ReferenceIdeal (hKernelIdeal := Cert.KernelIdeal.Gen.facts)
    (hReferenceIdeal := Cert.ReferenceIdeal.Gen.facts) := by
  intro m g m' g' _ hargs
  have hx : ∀ c : Dev Cert.KernelIdeal.nD, Cert.ReferenceIdeal.Hand.acts m' c = Cert.KernelIdeal.Hand.acts m c := fun c =>
    (Cert.ReferenceIdeal.Hand.acts_eq m' c).trans ((congrArg (fun v => shapeCast Cert.KernelIdeal.S768x5120 v
      Cert.KernelIdeal.Gen.shapeCasts_S2x384x5120_S768x5120) (hargs c).1).trans (Cert.KernelIdeal.Hand.acts_eq m c).symm)
  have hw : ∀ c : Dev Cert.KernelIdeal.nD, Cert.ReferenceIdeal.Hand.weights m' c = Cert.KernelIdeal.Hand.weights m c := fun c =>
    (Cert.ReferenceIdeal.Hand.weights_eq m' c).trans ((hargs c).2.1.trans (Cert.KernelIdeal.Hand.weights_eq m c).symm)
  have hs : ∀ c : Dev Cert.KernelIdeal.nD, Cert.ReferenceIdeal.Hand.scales m' c = Cert.KernelIdeal.Hand.scales m c := fun c =>
    (Cert.ReferenceIdeal.Hand.scales_eq m' c).trans ((congrArg (fun v => shapeCast Cert.KernelIdeal.S1x6912 v
      Cert.KernelIdeal.Gen.shapeCasts_S6912_S1x6912) (hargs c).2.2).trans (Cert.KernelIdeal.Hand.scales_eq m c).symm)
  refine ⟨fun c y => Spec.hs (Cert.KernelIdeal.Hand.acts m c) (Cert.KernelIdeal.Hand.weights m c) (Cert.KernelIdeal.Hand.scales m c) (y 0),
    fun c y => Spec.hc (Cert.KernelIdeal.Hand.acts m c) (Cert.KernelIdeal.Hand.weights m c) (Cert.KernelIdeal.Hand.scales m c) (y 0) (y 1),
    fun c y => Spec.xc (Cert.KernelIdeal.Hand.acts m c) (y 0) (y 1),
    fun c y => Spec.xs (Cert.KernelIdeal.Hand.acts m c) (y 0),
    Cert.KernelIdeal.Hand.run m g,
    (θ_run Cert.ReferenceIdeal.defs _ _).mono (fun _ h c => ?_) (Cert.ReferenceIdeal.Hand.run m' g')⟩
  have hc := h c
  rw [hx c, hw c, hs c] at hc
  exact hc

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate: the three frames with quiescence, the idealization, and the equation
    of the kernel and the reference over the extended reals. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial, algebraic⟩

end Cert.Proof

end
